-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_powers_of_two [hPre_powers_of_two : Cert.Pre_powers_of_two.Facts] (m : (ℓ : Loc Cert.KernelIdeal.nD Cert.KernelIdeal.τ Cert.KernelIdeal.sig) → Buf (Elt Ideal) ℓ) : Prop :=
  ∀ c : Dev Cert.KernelIdeal.nD,
    (Cert.Pre_powers_of_two.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_powers_of_two [hPre_powers_of_two : Cert.Pre_powers_of_two.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_powers_of_two.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_powers_of_two [hKernelIdeal : Cert.KernelIdeal.Facts] [hPre_powers_of_two : Cert.Pre_powers_of_two.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_powers_of_two m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_powers_of_two [hReferenceIdeal : Cert.ReferenceIdeal.Facts] [hPre_powers_of_two : Cert.Pre_powers_of_two.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_powers_of_two m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_powers_of_two [hKernelIdeal : Cert.KernelIdeal.Facts] [hReferenceIdeal : Cert.ReferenceIdeal.Facts] [hPre_powers_of_two : Cert.Pre_powers_of_two.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_powers_of_two m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_powers_of_two : Cert.Pre_powers_of_two.Facts),
    quiescent_Kernel (hKernel := hKernel)
    ∧ quiescent_KernelIdeal (hKernelIdeal := hKernelIdeal)
    ∧ quiescent_KernelIdeal_pre_powers_of_two (hKernelIdeal := hKernelIdeal) (hPre_powers_of_two := hPre_powers_of_two)
    ∧ quiescent_ReferenceIdeal (hReferenceIdeal := hReferenceIdeal)
    ∧ quiescent_ReferenceIdeal_pre_powers_of_two (hReferenceIdeal := hReferenceIdeal) (hPre_powers_of_two := hPre_powers_of_two)
    ∧ preserves_Kernel_KernelIdeal
    ∧ algebraic_KernelIdeal_ReferenceIdeal_pre_powers_of_two (hKernelIdeal := hKernelIdeal) (hReferenceIdeal := hReferenceIdeal) (hPre_powers_of_two := hPre_powers_of_two)
-- ==== Pre_powers_of_two.lean ====
abbrev S1x128x4096 : Shape := ⟨3, ![1, 128, 4096]⟩
abbrev S4096x11008 : Shape := ⟨2, ![4096, 11008]⟩
abbrev S32x22016 : Shape := ⟨2, ![32, 22016]⟩
abbrev S22016 : Shape := ⟨1, ![22016]⟩
abbrev S1 : Shape := ⟨1, ![1]⟩
abbrev S_ : Shape := ⟨0, ![]⟩
abbrev S1x22016 : Shape := ⟨2, ![1, 22016]⟩

class Facts : Prop where
  bcast_S_S32x22016 : S_.BroadcastsInDim S32x22016 (![] : Fin 0 → Fin S32x22016.rank)
  reducesTo_S32x22016_S22016_d0 : S32x22016.ReducesTo [0] S22016
  h_S_ : 0 < S_.numel
  bcast_S22016_S1x22016_1 : S22016.BroadcastsInDim S1x22016 (![1] : Fin 1 → Fin S1x22016.rank)
  bcast_S_S1x22016 : S_.BroadcastsInDim S1x22016 (![] : Fin 0 → Fin S1x22016.rank)
  bcast_S1x22016_S32x22016_0_1 : S1x22016.BroadcastsInDim S32x22016 (![0, 1] : Fin 2 → Fin S32x22016.rank)

variable [Facts]

def fn_part1 {F : FTy → Type} [FloatOps F] (main_v1 : IVec S32x22016 32) (main_v3 : IVec S1x22016 32) (main_v14 : IVec S32x22016 1) (main_v16 : IVec S1x22016 1) : IVec S32x22016 1 :=
  let main_v17 : IVec S32x22016 1 := broadcastInDim S32x22016 ![0, 1] bcast_S1x22016_S32x22016_0_1 main_v16
  let main_v18 : IVec S32x22016 1 := andi main_v14 main_v17
  let main_v19 : IVec S32x22016 32 := broadcastInDim S32x22016 ![0, 1] bcast_S1x22016_S32x22016_0_1 main_v3
  let main_v20 : IVec S32x22016 32 := subi main_v19 main_v1
  let main_c_6 : IVec S_ 32 := constantI S_ 32 131#32
  let main_v21 : IVec S32x22016 32 := broadcastInDim S32x22016 ![] bcast_S_S32x22016 main_c_6
  let main_v22 : IVec S32x22016 1 := cmpi .sle main_v20 main_v21
  let main_v23 : IVec S32x22016 1 := andi main_v18 main_v22
  main_v23

def fn {F : FTy → Type} [FloatOps F] (main_arg0 : FVec F S1x128x4096 .bf16) (main_arg1 : IVec S4096x11008 8) (main_arg2 : IVec S32x22016 32) (main_arg3 : FVec F S22016 .f32) (main_arg4 : FVec F S1 .f32) : IVec S32x22016 1 :=
  let main_c : IVec S_ 32 := constantI S_ 32 23#32
  let main_v0 : IVec S32x22016 32 := broadcastInDim S32x22016 ![] bcast_S_S32x22016 main_c
  let main_v1 : IVec S32x22016 32 := Host.shrsi main_arg2 main_v0
  let main_c_0 : IVec S_ 32 := constantI S_ 32 2147483648#32
  let main_v2 : IVec S22016 32 := (fun x v => Host.reduce IntOp.maxsi x v reducesTo_S32x22016_S22016_d0 h_S_) main_v1 main_c_0
  let main_v3 : IVec S1x22016 32 := broadcastInDim S1x22016 ![1] bcast_S22016_S1x22016_1 main_v2
  let main_c_1 : IVec S_ 32 := constantI S_ 32 8388607#32
  let main_v4 : IVec S32x22016 32 := broadcastInDim S32x22016 ![] bcast_S_S32x22016 main_c_1
  let main_v5 : IVec S32x22016 32 := andi main_arg2 main_v4
  let main_c_2 : IVec S_ 32 := constantI S_ 32 0#32
  let main_v6 : IVec S32x22016 32 := broadcastInDim S32x22016 ![] bcast_S_S32x22016 main_c_2
  let main_v7 : IVec S32x22016 1 := cmpi .eq main_v5 main_v6
  let main_c_3 : IVec S_ 32 := constantI S_ 32 1#32
  let main_v8 : IVec S32x22016 32 := broadcastInDim S32x22016 ![] bcast_S_S32x22016 main_c_3
  let main_v9 : IVec S32x22016 1 := cmpi .sge main_v1 main_v8
  let main_v10 : IVec S32x22016 1 := andi main_v7 main_v9
  let main_c_4 : IVec S_ 32 := constantI S_ 32 6#32
  let main_v11 : IVec S1x22016 32 := broadcastInDim S1x22016 ![] bcast_S_S1x22016 main_c_4
  let main_v12 : IVec S1x22016 1 := cmpi .sge main_v3 main_v11
  let main_v13 : IVec S32x22016 1 := broadcastInDim S32x22016 ![0, 1] bcast_S1x22016_S32x22016_0_1 main_v12
  let main_v14 : IVec S32x22016 1 := andi main_v10 main_v13
  let main_c_5 : IVec S_ 32 := constantI S_ 32 254#32
  let main_v15 : IVec S1x22016 32 := broadcastInDim S1x22016 ![] bcast_S_S1x22016 main_c_5
  let main_v16 : IVec S1x22016 1 := cmpi .sle main_v3 main_v15
  fn_part1 (F := F) main_v1 main_v3 main_v14 main_v16
-- ==== Kernel.lean ====
abbrev S1x128x4096 : Shape := ⟨3, ![1, 128, 4096]⟩
abbrev S4096x11008 : Shape := ⟨2, ![4096, 11008]⟩
abbrev S32x22016 : Shape := ⟨2, ![32, 22016]⟩
abbrev S22016 : Shape := ⟨1, ![22016]⟩
abbrev S1 : Shape := ⟨1, ![1]⟩
abbrev S128x4096 : Shape := ⟨2, ![128, 4096]⟩
abbrev S1x22016 : Shape := ⟨2, ![1, 22016]⟩
abbrev S128x22016 : Shape := ⟨2, ![128, 22016]⟩
abbrev S128x1 : Shape := ⟨2, ![128, 1]⟩
abbrev S4096x256 : Shape := ⟨2, ![4096, 256]⟩
abbrev S32x256 : Shape := ⟨2, ![32, 256]⟩
abbrev S1x256 : Shape := ⟨2, ![1, 256]⟩
abbrev S128x256 : Shape := ⟨2, ![128, 256]⟩
abbrev S128 : Shape := ⟨1, ![128]⟩
abbrev S256 : Shape := ⟨1, ![256]⟩
abbrev S256x256 : Shape := ⟨2, ![256, 256]⟩

abbrev nBuf : Space → Nat
  | .hbm => 10
  | .vmem => 11
  | .smem => 1
  | _ => 0

abbrev bufTy : (tb : Table) → Fin (tcTables nBuf tb) → BufTy
  | .hbm, ⟨0, _⟩ => ⟨S1x128x4096, .bf16⟩
  | .hbm, ⟨1, _⟩ => ⟨S4096x11008, .i8⟩
  | .hbm, ⟨2, _⟩ => ⟨S32x22016, .i32⟩
  | .hbm, ⟨3, _⟩ => ⟨S22016, .f32⟩
  | .hbm, ⟨4, _⟩ => ⟨S1, .f32⟩
  | .hbm, ⟨5, _⟩ => ⟨S128x4096, .bf16⟩
  | .hbm, ⟨6, _⟩ => ⟨S1x22016, .f32⟩
  | .hbm, ⟨7, _⟩ => ⟨S128x22016, .bf16⟩
  | .hbm, ⟨8, _⟩ => ⟨S128x4096, .fp8e4m3⟩
  | .hbm, ⟨9, _⟩ => ⟨S128x1, .f32⟩
  | .local _ .vmem, ⟨0, _⟩ => ⟨S128x4096, .bf16⟩
  | .local _ .vmem, ⟨1, _⟩ => ⟨S4096x256, .i8⟩
  | .local _ .vmem, ⟨2, _⟩ => ⟨S4096x256, .i8⟩
  | .local _ .vmem, ⟨3, _⟩ => ⟨S32x256, .i32⟩
  | .local _ .vmem, ⟨4, _⟩ => ⟨S32x256, .i32⟩
  | .local _ .vmem, ⟨5, _⟩ => ⟨S1x256, .f32⟩
  | .local _ .vmem, ⟨6, _⟩ => ⟨S1x256, .f32⟩
  | .local _ .vmem, ⟨7, _⟩ => ⟨S128x256, .bf16⟩
  | .local _ .vmem, ⟨8, _⟩ => ⟨S128x256, .bf16⟩
  | .local _ .vmem, ⟨9, _⟩ => ⟨S128x4096, .fp8e4m3⟩
  | .local _ .vmem, ⟨10, _⟩ => ⟨S128x1, .f32⟩
  | .local _ .smem, ⟨0, _⟩ => ⟨S1, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![43, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli c43_i32 arg1
  let v1 : BitVec 32 := Scalar.addi arg0 v0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli c43_i32 arg1
  let v1 : BitVec 32 := Scalar.addi arg0 v0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli c43_i32 arg1
  let v1 : BitVec 32 := Scalar.addi arg0 v0
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S1x128x4096 : Shape := ⟨3, ![1, 128, 4096]⟩
abbrev S4096x11008 : Shape := ⟨2, ![4096, 11008]⟩
abbrev S32x22016 : Shape := ⟨2, ![32, 22016]⟩
abbrev S22016 : Shape := ⟨1, ![22016]⟩
abbrev S1 : Shape := ⟨1, ![1]⟩
abbrev S128x4096 : Shape := ⟨2, ![128, 4096]⟩
abbrev S128x22016 : Shape := ⟨2, ![128, 22016]⟩
abbrev S128x1 : Shape := ⟨2, ![128, 1]⟩
abbrev S128 : Shape := ⟨1, ![128]⟩
abbrev S1x1 : Shape := ⟨2, ![1, 1]⟩
abbrev S32x128x11008 : Shape := ⟨3, ![32, 128, 11008]⟩
abbrev S32x11008 : Shape := ⟨2, ![32, 11008]⟩
abbrev S32x1x11008 : Shape := ⟨3, ![32, 1, 11008]⟩
abbrev S128x11008 : Shape := ⟨2, ![128, 11008]⟩
abbrev S11008 : Shape := ⟨1, ![11008]⟩
abbrev S1x11008 : Shape := ⟨2, ![1, 11008]⟩

abbrev nBuf : Space → Nat
  | .hbm => 9
  | .vmem => 8
  | .smem => 0
  | _ => 0

abbrev bufTy : (tb : Table) → Fin (tcTables nBuf tb) → BufTy
  | .hbm, ⟨0, _⟩ => ⟨S1x128x4096, .bf16⟩
  | .hbm, ⟨1, _⟩ => ⟨S4096x11008, .i8⟩
  | .hbm, ⟨2, _⟩ => ⟨S32x22016, .i32⟩
  | .hbm, ⟨3, _⟩ => ⟨S22016, .f32⟩
  | .hbm, ⟨4, _⟩ => ⟨S1, .f32⟩
  | .hbm, ⟨5, _⟩ => ⟨S128x4096, .bf16⟩
  | .hbm, ⟨6, _⟩ => ⟨S128x22016, .bf16⟩
  | .hbm, ⟨7, _⟩ => ⟨S128x4096, .fp8e4m3⟩
  | .hbm, ⟨8, _⟩ => ⟨S128x1, .f32⟩
  | .local _ .vmem, ⟨0, _⟩ => ⟨S128x4096, .bf16⟩
  | .local _ .vmem, ⟨1, _⟩ => ⟨S4096x11008, .i8⟩
  | .local _ .vmem, ⟨2, _⟩ => ⟨S32x22016, .i32⟩
  | .local _ .vmem, ⟨3, _⟩ => ⟨S22016, .f32⟩
  | .local _ .vmem, ⟨4, _⟩ => ⟨S1, .f32⟩
  | .local _ .vmem, ⟨5, _⟩ => ⟨S128x22016, .bf16⟩
  | .local _ .vmem, ⟨6, _⟩ => ⟨S128x4096, .fp8e4m3⟩
  | .local _ .vmem, ⟨7, _⟩ => ⟨S128x1, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x11008 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x22016 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S22016 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x22016 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Words.lean ====
/- Words and powers of two: what the bit patterns of the two programs denote, over no program. -/
module

public import Idealize.ShloMosaic.Lib.BitcastFour
public import Idealize.ShloMosaic.Lib.BitcastPair
public import Idealize.ShloMosaic.Lib.SortNet.Extract
public import Idealize.ShloMosaic.PureOps.Ideal
public import Idealize.ShloMosaic.PureOps.Ideal.Laws

@[expose] public section

noncomputable section

namespace Cert.Words

open Idealize.ShloMosaic

/-- The real `2 ^ n` as an extended real. -/
def pow2 (n : ℤ) : ℝ := (2 : ℝ) ^ n

/-- The 32-bit word whose exponent field is `n` and whose other bits are zero. -/
def expWord (n : ℕ) : BitVec 32 := BitVec.ofNat 32 (n * 2 ^ 23)

/-- Read as a float, it is `2 ^ (n - 127)`. -/
theorem ofBits_expWord {n : ℕ} (h1 : 1 ≤ n) (h2 : n ≤ 254) :
    Ideal.ofBits .f32 (expWord n) = ((pow2 ((n : ℤ) - 127) : ℝ) : EReal) := by
  have hv : (expWord n).toNat = n * 2 ^ 23 := by
    unfold expWord; rw [BitVec.toNat_ofNat]; exact Nat.mod_eq_of_lt (by omega)
  have hneg : ((expWord n).extractLsb' (8 + 23) 1 == 1#1) = false := by
    rw [beq_eq_false_iff_ne]; intro h
    have := congrArg BitVec.toNat h
    rw [BitVec.extractLsb'_toNat, hv, Nat.shiftRight_eq_div_pow] at this
    simp at this; omega
  have hex : ((expWord n).extractLsb' 23 8).toNat = n := by
    rw [BitVec.extractLsb'_toNat, hv, Nat.shiftRight_eq_div_pow]; omega
  have hfr : ((expWord n).extractLsb' 0 23).toNat = 0 := by
    rw [BitVec.extractLsb'_toNat, hv, Nat.shiftRight_eq_div_pow]; omega
  show Ideal.ieee 8 23 (expWord n) = _
  unfold Ideal.ieee
  simp only [hneg, hex, hfr]
  rw [if_neg (by omega), if_neg (by omega)]
  unfold pow2
  congr 1
  have e : ((n : ℤ) - 127) = 23 + ((n : ℤ) - (2 ^ (8 - 1) - 1) - 23) := by norm_num
  rw [e, zpow_add₀ (by norm_num)]
  norm_num

/-- The sixteenth the kernel multiplies its group scales by. -/
theorem ofBits_sixteenth : Ideal.ofBits .bf16 0x3D80#16 = ((1 / 16 : ℝ) : EReal) := by
  simp [Ideal.ofBits, Ideal.ieee, -EReal.coe_mul]; norm_num

/-! ## The exponents of one column -/

/-- The exponent field of a word, with its sign. -/
def expo (b : BitVec 32) : BitVec 32 := IntOp.shrsi .vector b 23#32

theorem expo_eq (b : BitVec 32) : expo b = b.sshiftRight 23 := by
  unfold expo IntOp.shrsi; rw [if_pos (by decide)]; rfl

/-- The greatest exponent of a column of 32 words. -/
def topOf (col : Fin 32 → BitVec 32) : BitVec 32 :=
  (Finset.univ : Finset (Fin 32)).fold IntOp.maxsi 2147483648#32 fun g => expo (col g)

/-- What is asked of a column of scales: each is a power of two, and the exponents keep within the stated bounds. -/
def ColOk (col : Fin 32 → BitVec 32) : Prop :=
  ∀ g, col g &&& 8388607#32 = 0#32 ∧ 1 ≤ (expo (col g)).toInt ∧ 6 ≤ (topOf col).toInt ∧ (topOf col).toInt ≤ 254 ∧
    (topOf col - expo (col g)).toInt ≤ 131

/-- A word with a positive exponent field and no lower bit is the word of that exponent. -/
theorem eq_expWord {b : BitVec 32} (h0 : b &&& 8388607#32 = 0#32) {n : ℕ} (hn : (expo b).toInt = n) (h1 : 1 ≤ n) (h2 : n ≤ 254) :
    b = expWord n := by
  rw [expo_eq, BitVec.toInt_sshiftRight, BitVec.toInt_eq_toNat_cond, Int.shiftRight_eq_div_pow] at hn
  have hb := b.isLt
  have hm : b.toNat % 2 ^ 23 = 0 := by
    have := congrArg BitVec.toNat h0
    rw [BitVec.toNat_and, show (8388607#32 : BitVec 32).toNat = 2 ^ 23 - 1 from rfl, Nat.and_two_pow_sub_one_eq_mod] at this
    exact this
  apply BitVec.eq_of_toNat_eq
  unfold expWord; rw [BitVec.toNat_ofNat]
  split at hn
  · norm_num at hn hm ⊢; omega
  · exfalso; norm_num at hn; omega

/-- Such a column in natural numbers: a top `n`, and each scale's exponent `k` between 1 and `n`. -/
theorem ColOk.nat {col : Fin 32 → BitVec 32} (h : ColOk col) :
    ∃ n : ℕ, topOf col = BitVec.ofNat 32 n ∧ 6 ≤ n ∧ n ≤ 254 ∧
      ∀ g, ∃ k : ℕ, 1 ≤ k ∧ k ≤ n ∧ n ≤ k + 131 ∧ col g = expWord k ∧ expo (col g) = BitVec.ofNat 32 k := by
  have ofInt (x : BitVec 32) (z : ℤ) (hx : x.toInt = z) (h0 : 0 ≤ z) (h1 : z ≤ 254) : x = BitVec.ofNat 32 z.toNat := by
    apply BitVec.eq_of_toNat_eq
    have hl := x.isLt
    rw [BitVec.toInt_eq_toNat_cond] at hx
    rw [BitVec.toNat_ofNat]
    split at hx <;> omega
  obtain ⟨-, -, t6, t254, -⟩ := h 0
  have ht := ofInt (topOf col) _ rfl (by omega) t254
  refine ⟨(topOf col).toInt.toNat, ht, by omega, by omega, fun g => ?_⟩
  obtain ⟨hm, he, -, -, hd⟩ := h g
  have hle : (expo (col g)).toInt ≤ (topOf col).toInt :=
    (SortNet.fold_maxsi_spec (fun g => expo (col g)) Finset.univ 2147483648#32).2.1 g (Finset.mem_univ g)
  have hk := ofInt (expo (col g)) _ rfl (by omega) (by omega)
  refine ⟨(expo (col g)).toInt.toNat, by omega, by omega, ?_, eq_expWord hm (by omega) (by omega) (by omega), hk⟩
  rw [BitVec.toInt_sub] at hd
  rw [Int.bmod_eq_of_le (by omega) (by omega)] at hd
  omega

/-- The word the kernel builds for a group's scale over the column's top, with a margin of 5. -/
def relWord (e top : BitVec 32) : BitVec 32 := IntOp.shli .vector (IntOp.addi (IntOp.subi e top) 132#32) 23#32

/-- The word the kernel builds for the column's top, less the margin. -/
def topWord (top : BitVec 32) : BitVec 32 := IntOp.shli .vector (IntOp.subi top 5#32) 23#32

theorem shl23 (n : ℕ) : IntOp.shli .vector (BitVec.ofNat 32 n) 23#32 = expWord n := by
  unfold IntOp.shli expWord; rw [if_pos (by decide)]
  apply BitVec.eq_of_toNat_eq
  rw [BitVec.shiftLeft_eq', BitVec.toNat_shiftLeft, show (23#32 : BitVec 32).toNat = 23 from rfl, BitVec.toNat_ofNat, BitVec.toNat_ofNat, Nat.shiftLeft_eq]
  omega

theorem relWord_eq {k n : ℕ} (h : n ≤ k + 131) (hk : k ≤ n) (hn : n ≤ 254) :
    relWord (BitVec.ofNat 32 k) (BitVec.ofNat 32 n) = expWord (k + 132 - n) := by
  unfold relWord
  rw [← shl23]; congr 1
  apply BitVec.eq_of_toNat_eq
  unfold IntOp.addi IntOp.subi
  rw [BitVec.toNat_add, BitVec.toNat_sub, BitVec.toNat_ofNat, BitVec.toNat_ofNat, BitVec.toNat_ofNat, BitVec.toNat_ofNat]
  omega

theorem topWord_eq {n : ℕ} (h : 6 ≤ n) (hn : n ≤ 254) : topWord (BitVec.ofNat 32 n) = expWord (n - 5) := by
  unfold topWord
  rw [← shl23]; congr 1
  apply BitVec.eq_of_toNat_eq
  unfold IntOp.subi
  rw [BitVec.toNat_sub, BitVec.toNat_ofNat, BitVec.toNat_ofNat, BitVec.toNat_ofNat]
  omega

/-- The scales of a column: the kernel's relative scale of each group is a real `f g`, its top a real `S`, and the scale itself
    is the real `16 · (f g / 16) · S`. -/
theorem ColOk.scales {col : Fin 32 → BitVec 32} (h : ColOk col) :
    ∃ (S : ℝ) (f G : Fin 32 → ℝ), Ideal.ofBits .f32 (topWord (topOf col)) = (S : EReal) ∧
      ∀ g, Ideal.ofBits .f32 (relWord (expo (col g)) (topOf col)) = (f g : EReal) ∧ Ideal.ofBits .f32 (col g) = (G g : EReal) ∧
        f g * S = G g := by
  obtain ⟨n, hn, h6, h254, hg⟩ := h.nat
  choose k h1 hkn hnk hw he using hg
  refine ⟨pow2 ((n : ℤ) - 132), fun g => pow2 ((k g : ℤ) - n + 5), fun g => pow2 ((k g : ℤ) - 127), ?_, fun g => ⟨?_, ?_, ?_⟩⟩
  · rw [hn, topWord_eq h6 h254, ofBits_expWord (by omega) (by omega)]
    congr 2; omega
  · have := hnk g; have := hkn g
    rw [hn, he g, relWord_eq (hnk g) (hkn g) h254, ofBits_expWord (by omega) (by omega)]
    congr 2; omega
  · have := hkn g
    rw [hw g, ofBits_expWord (h1 g) (by omega)]
  · unfold pow2
    rw [← zpow_add₀ (by norm_num)]; congr 1; ring

/-! ## Nibbles -/

/-- The nibble of a packed byte that belongs to half `h` of the columns, as a byte with its sign: the low one for half 0, the high
    one for half 1. -/
def nibble (h : ℕ) (v : BitVec 8) : BitVec 8 :=
  if h = 0 then IntOp.shrsi .vector (IntOp.shli .vector v 4#8) 4#8 else IntOp.shrsi .vector v 4#8

theorem toInt_low : ∀ v : BitVec 8, ((v <<< 4) &&& 0xF0#8).toInt = 16 * (IntOp.shrsi .vector (IntOp.shli .vector v 4#8) 4#8).toInt := by
  decide +kernel

theorem toInt_high : ∀ v : BitVec 8, ((v <<< 0) &&& 0xF0#8).toInt = 16 * (IntOp.shrsi .vector v 4#8).toInt := by
  decide +kernel

/-- The byte with the nibble in its high four bits is sixteen times the nibble. -/
theorem toInt_sixteen {h : ℕ} (hh : h < 2) (v : BitVec 8) :
    ((v <<< ((1 - h) * 4)) &&& 0xF0#8).toInt = 16 * (nibble h v).toInt := by
  unfold nibble
  interval_cases h
  · exact toInt_low v
  · exact toInt_high v

/-- The bits of the mask that clears every low nibble of a word. -/
theorem mask_bit : ∀ q : Fin 32, (4042322160#32 : BitVec 32).getLsbD q.val = decide (4 ≤ q.val % 8) := by decide +kernel
theorem mask8_bit : ∀ q : Fin 8, (0xF0#8 : BitVec 8).getLsbD q.val = decide (4 ≤ q.val) := by decide +kernel

/-- Four bytes shifted as one word by 4 or 0 bits and masked are the four bytes shifted each and masked. -/
theorem bitcast_masked {R r n : ℕ} (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (hR : R = 4 * r) (d : ℕ) (hd : d = 0 ∨ d = 4) (w : BitVec 32)
    (hw : w = BitVec.ofNat 32 d) (p : Fin R) (l : Fin n) :
    bitcast ⟨2, ![R, n]⟩ 8 (andi (shli (bitcast ⟨2, ![r, n]⟩ 32 x h) (broadcast ⟨2, ![r, n]⟩ w)) (broadcast ⟨2, ![r, n]⟩ 4042322160#32)) h'
        (ValueIdx.ix2 p l)
      = (x (ValueIdx.ix2 p l) <<< d) &&& 0xF0#8 := by
  have hp := p.isLt
  have hwd : w.toNat = d := by rw [hw, BitVec.toNat_ofNat]; omega
  apply BitVec.eq_of_getLsbD_eq
  intro k hk
  rw [bitcast_getLsbD _ h' _ k hk (by decide)]
  rw [BitVec.getLsbD_and, mask8_bit ⟨k, hk⟩]
  have hrow : (⟨2, ![R, n]⟩ : Shape).row (ValueIdx.ix2 p l) = p.val := by rfl
  have hsrc : ∀ (a : Fin r) (N : ℕ) (hN), N = a.val → h'.srcIdx (ValueIdx.ix2 p l) N hN = ValueIdx.ix2 a l := by
    intro a N hN e
    funext c
    match c with
    | ⟨0, _⟩ => exact Fin.ext ((h'.srcIdx_row _ _ _ ⟨0, Nat.zero_lt_two⟩ rfl).trans e)
    | ⟨1, _⟩ => exact Fin.ext (h'.srcIdx_other _ _ _ ⟨1, Nat.one_lt_two⟩ (by show ¬ 1 + 2 = 2; omega))
  have hr : ((⟨2, ![R, n]⟩ : Shape).row (ValueIdx.ix2 p l) * 8 + k) % 32 = (p.val * 8 + k) % 32 := by rw [hrow]
  rw [hr, hsrc ⟨(p.val * 8 + k) / 32, by omega⟩ _ _ (by rw [hrow])]
  show (IntOp.andi (IntOp.shli .vector _ w) 4042322160#32).getLsbD _ = _
  unfold IntOp.andi IntOp.shli
  rw [if_pos (by omega), BitVec.getLsbD_and, BitVec.shiftLeft_eq', BitVec.getLsbD_shiftLeft, BitVec.getLsbD_shiftLeft, hwd]
  have hq : (p.val * 8 + k) % 32 < 32 := Nat.mod_lt _ (by decide)
  rw [mask_bit ⟨_, hq⟩]
  by_cases h4 : 4 ≤ k
  · have e1 : decide (4 ≤ (p.val * 8 + k) % 32 % 8) = true := decide_eq_true (by omega)
    have e2 : decide ((p.val * 8 + k) % 32 < d) = false := decide_eq_false (by omega)
    have e3 : decide (k < d) = false := decide_eq_false (by omega)
    rw [bitcast_8_32_getLsbD_ix2 x h _ l _ (by omega) p (by show p.val = 4 * ((p.val * 8 + k) / 32) + _; omega)]
    simp only [e1, e2, e3, decide_eq_true h4, decide_eq_true hq, decide_eq_true hk, Bool.not_false, Bool.and_true, Bool.true_and]
    congr 1; omega
  · have e1 : decide (4 ≤ (p.val * 8 + k) % 32 % 8) = false := decide_eq_false (by omega)
    simp only [e1, decide_eq_false h4, Bool.and_false]

/-! ## Finite sums of reals -/

/-- A finite sum of reals is the same sum of extended reals. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- THE EQUATION of one result element: a scale taken out of every weight and put back after the sum, over finite codes,
    whatever the two outer factors. -/
theorem scale_out {n : ℕ} (a w : Fin n → ℝ) (f G : Fin n → ℝ) (S : ℝ) (xs ws : EReal) (h : ∀ k, f k * S = G k) :
    (∑ k : Fin n, (a k : EReal) * (((16 * w k : ℝ) : EReal) * ((f k : EReal) * ((1 / 16 : ℝ) : EReal)))) * ((S : EReal) * xs) * ws
      = (∑ k : Fin n, (a k : EReal) * ((w k : EReal) * (G k : EReal))) * xs * ws := by
  have e1 : ∀ k, (a k : EReal) * (((16 * w k : ℝ) : EReal) * ((f k : EReal) * ((1 / 16 : ℝ) : EReal)))
      = ((a k * ((16 * w k) * (f k * (1 / 16))) : ℝ) : EReal) := fun k => by push_cast; rfl
  have e2 : ∀ k, (a k : EReal) * ((w k : EReal) * (G k : EReal)) = ((a k * (w k * G k) : ℝ) : EReal) := fun k => by push_cast; rfl
  simp only [e1, e2]
  rw [← coe_sum, ← coe_sum, ← mul_assoc, ← EReal.coe_mul,
    show (∑ k, a k * ((16 * w k) * (f k * (1 / 16)))) * S = ∑ k, a k * (w k * G k) from by
      rw [Finset.sum_mul]
      exact Finset.sum_congr rfl fun k _ => by rw [← h k]; ring]

/-- A number held between two reals is a real. -/
theorem exists_real_of_clip (x : EReal) (a b : ℝ) (hab : a ≤ b) : ∃ r : ℝ, min (b : EReal) (max (a : EReal) x) = (r : EReal) := by
  refine ⟨(min (b : EReal) (max (a : EReal) x)).toReal, (EReal.coe_toReal ?_ ?_).symm⟩
  · exact ne_of_lt (lt_of_le_of_lt (min_le_left _ _) (EReal.coe_lt_top b))
  · refine ne_of_gt (lt_of_lt_of_le (EReal.bot_lt_coe a) (le_min ?_ (le_max_left _ _)))
    exact EReal.coe_le_coe_iff.mpr hab

theorem ofBits_448 : Ideal.ofBits .f32 0x43E00000#32 = ((448 : ℝ) : EReal) := by
  simp [Ideal.ofBits, Ideal.ieee, -EReal.coe_mul]; norm_num
theorem ofBits_neg448 : Ideal.ofBits .f32 0xC3E00000#32 = ((-448 : ℝ) : EReal) := by
  simp [Ideal.ofBits, Ideal.ieee, -EReal.coe_mul]; norm_num

end Cert.Words

end
-- ==== Proof.Precondition.lean ====
module

public import proofs.«01_k».proof.Pre_powers_of_two
public import proofs.«01_k».proof.Proof.Words
public import Idealize.ShloMosaic.Lib.Pointwise
public import Idealize.ShloMosaic.Lib.WordCmp
public import Idealize.ShloMosaic.Lib.Affine

@[expose] public section

set_option maxRecDepth 16384

noncomputable section

namespace Cert.Pre_powers_of_two

open Idealize.ShloMosaic Cert.Words

/-! The precondition, read column by column. -/

/-- The shape relations the precondition's operations take. -/
theorem facts : Facts where
  bcast_S_S32x22016 := by decide
  reducesTo_S32x22016_S22016_d0 := by decide
  h_S_ := by decide
  bcast_S22016_S1x22016_1 := by decide
  bcast_S_S1x22016 := by decide
  bcast_S1x22016_S32x22016_0_1 := by decide

variable [Facts]

/-- If the precondition holds, every column of scale words is one of powers of two whose exponents lie in the range
    that the kernel's shifts reach. -/
theorem column_ok (a0 : FVec Ideal S1x128x4096 .bf16) (a1 : IVec S4096x11008 8) (b : IVec S32x22016 32) (a3 : FVec Ideal S22016 .f32)
    (a4 : FVec Ideal S1 .f32) (h : fn (F := Ideal) a0 a1 b a3 a4 = fun _ => 1#1) (n : Fin 22016) :
    ColOk fun g => b (ValueIdx.ix2 g n) := by
  intro g
  have h' := congrFun h (ix2 g n)
  unfold fn fn_part1 at h'
  pointwise at h'
  have hx : ∀ v : BitVec 32, IntOp.shrsi .host v 23#32 = expo v := fun _ => rfl
  have hb : ∀ b : Bool, BitVec.ofBool b = 1#1 ↔ b = true := by decide
  simp only [hx, IntOp.andi_eq_one, IntOp.cmpi_eq, WordCmp.cmpi_sge_eq, WordCmp.cmpi_sle_eq, hb, decide_eq_true_eq] at h'
  obtain ⟨⟨⟨⟨h0, h1⟩, h2⟩, h3⟩, h4⟩ := h'
  simp only [ix2_eq_valueIdx] at h0 h1 h2 h3 h4
  exact ⟨h0, h1, h2, h3, h4⟩

end Cert.Pre_powers_of_two

end
-- ==== Proof.ReferenceRun.lean ====
module

public import proofs.«01_k».proof.Proof.Gen.ReferenceIdeal.Frame
public import Idealize.ShloMosaic.Lib.Pipeline.Value

@[expose] public section

noncomputable section

namespace Cert.ReferenceIdeal.Body

open Cert.ReferenceIdeal Cert.ReferenceIdeal.Gen
open Idealize.ShloMosaic Idealize.ShloMosaic.TcCoe Idealize.SL.Sem
open Idealize.ShloMosaic.Pipeline (Dat)

/-! The reference's run: its one grid point writes each result array back whole. -/

variable {F : FTy → Type} [FloatOps F]
variable (m : (ℓ : Loc nD τ sig) → Buf (Elt F) ℓ) (ρ : Dev nD → PrngReg)

/-- The grid has one point. -/
theorem one_point : ∀ t t' : Fin cfg0.N, t = t' :=
  (by decide +kernel : ∀ t t' : Fin grid0.N, t = t')
theorem fwb5 : ∀ t : Fin cfg0.N, (cfg0.win 5).flush t = true :=
  (by decide +kernel : ∀ t : Fin grid0.N, win0_5.flush t = true)
theorem fwb6 : ∀ t : Fin cfg0.N, (cfg0.win 6).flush t = true :=
  (by decide +kernel : ∀ t : Fin grid0.N, win0_6.flush t = true)
theorem fwb7 : ∀ t : Fin cfg0.N, (cfg0.win 7).flush t = true :=
  (by decide +kernel : ∀ t : Fin grid0.N, win0_7.flush t = true)

section
variable (c : Dev nD)

/-- What the one point writes back to result array 5. -/
theorem blocks5 (t : Fin cfg0.N) :
    ((cfg0.win 5).blk t).view.read (Elt F) ((dats m 0 c).arrAt 5 cfg0.N)
      = (cfg0.win 5).cut (grid0.coords t) (out0_5 (iblk m c 0 t) (iblk m c 1 t) (iblk m c 2 t) (iblk m c 3 t) (iblk m c 4 t)) := by
  refine ((dats m 0 c).read_blk_arrAt_eq_flushed 5 (fun t t' _ _ h => absurd (one_point t t') h) cfg0.N t t.isLt (fwb5 t)).trans ?_
  show (cfg0.win 5).cut (grid0.coords t) ((dats m 0 c).after 5 t) = _
  rw [after0_5]

/-- What the one point writes back to result array 6. -/
theorem blocks6 (t : Fin cfg0.N) :
    ((cfg0.win 6).blk t).view.read (Elt F) ((dats m 0 c).arrAt 6 cfg0.N)
      = (cfg0.win 6).cut (grid0.coords t) (out0_6 (iblk m c 0 t) (iblk m c 1 t) (iblk m c 2 t) (iblk m c 3 t) (iblk m c 4 t)) := by
  refine ((dats m 0 c).read_blk_arrAt_eq_flushed 6 (fun t t' _ _ h => absurd (one_point t t') h) cfg0.N t t.isLt (fwb6 t)).trans ?_
  show (cfg0.win 6).cut (grid0.coords t) ((dats m 0 c).after 6 t) = _
  rw [after0_6]

/-- What the one point writes back to result array 7. -/
theorem blocks7 (t : Fin cfg0.N) :
    ((cfg0.win 7).blk t).view.read (Elt F) ((dats m 0 c).arrAt 7 cfg0.N)
      = (cfg0.win 7).cut (grid0.coords t) (out0_7 (iblk m c 0 t) (iblk m c 1 t) (iblk m c 2 t) (iblk m c 3 t) (iblk m c 4 t)) := by
  refine ((dats m 0 c).read_blk_arrAt_eq_flushed 7 (fun t t' _ _ h => absurd (one_point t t') h) cfg0.N t t.isLt (fwb7 t)).trans ?_
  show (cfg0.win 7).cut (grid0.coords t) ((dats m 0 c).after 7 t) = _
  rw [after0_7]

end

/-- After the run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The reference runs to the end: each result array holds what its one grid point wrote back, the arguments are unchanged. -/
theorem run_blocks : θ_run defs (onTc (τ := τ) (main (F := F))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_v1_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7,
      kept_main_arg0 m r h c,
      kept_main_arg1 m r h c,
      kept_main_arg2 m r h c,
      kept_main_arg3 m r h c,
      kept_main_arg4 m r h c⟩)
    (run_main m ρ)

end Cert.ReferenceIdeal.Body

end
-- ==== Proof.BodySetup.lean ====
module

public import proofs.«01_k».proof.Proof.Gen.KernelIdeal.Frame
public import proofs.«01_k».proof.Proof.Gen.KernelIdeal.Skeleton
public import Idealize.ShloMosaic.Lib.Pipeline.TableIdle
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 86 = 0 :=
  (fun t => by
    have ht : t.val < 86 := Nat.lt_of_lt_of_eq t.isLt N_0
    have e0 : (grid0.coords t 0).val = t.val / 2 % 43 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 86 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- One staging buffer of output window 5, through which its contents are stated (`View.read_writes_of_cover`: the
    choice does not matter). -/
abbrev VO0_5 : View sig .tc .vmem S128x256 .bf16 := (Memref.whole cc0_stg5_0 : Memref sig .tc .vmem S128x256 .bf16).view
/-- One staging buffer of output window 6, through which its contents are stated (`View.read_writes_of_cover`: the
    choice does not matter). -/
abbrev VO0_6 : View sig .tc .vmem S128x4096 .fp8e4m3 := (Memref.whole cc0_stg6_0 : Memref sig .tc .vmem S128x4096 .fp8e4m3).view
/-- One staging buffer of output window 7, through which its contents are stated (`View.read_writes_of_cover`: the
    choice does not matter). -/
abbrev VO0_7 : View sig .tc .vmem S128x1 .f32 := (Memref.whole cc0_stg7_0 : Memref sig .tc .vmem S128x1 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)

end Cert.KernelIdeal.Body

end
-- ==== Proof.RunFirst.lean ====
module

public import proofs.«01_k».proof.Proof.BodySetup

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the three output buffers at the first grid point (the codes and the row maxima
    are stored there), as pieces, with the proof that on whole staging buffers — the inputs' at their contents, the outputs'
    at anything — the body runs to a continuation that holds the inputs as they were and each output's pieces written. -/
noncomputable def runFirst (c : Dev nD) (i : grid0.Coords) (arg2 : Memref sig .tc .smem S1 .f32) (harg2 : arg2.IsWhole) (arg3 : Memref sig .tc .vmem S128x4096 .bf16) (harg3 : arg3.IsWhole) (arg4 : Memref sig .tc .vmem S4096x256 .i8) (harg4 : arg4.IsWhole) (arg5 : Memref sig .tc .vmem S32x256 .i32) (harg5 : arg5.IsWhole) (arg6 : Memref sig .tc .vmem S1x256 .f32) (harg6 : arg6.IsWhole) (arg7 : Memref sig .tc .vmem S128x256 .bf16) (harg7 : arg7.IsWhole) (arg8 : Memref sig .tc .vmem S128x4096 .fp8e4m3) (harg8 : arg8.IsWhole) (arg9 : Memref sig .tc .vmem S128x1 .f32) (harg9 : arg9.IsWhole) (hc0 : cond0_0 i)
    (x0 : Vec F S1 .f32) (x1 : Vec F S128x4096 .bf16) (x2 : Vec F S4096x256 .i8) (x3 : Vec F S32x256 .i32) (x4 : Vec F S1x256 .f32) :
    Σ' (L5 : List (View.Piece (Elt F) S128x256 .bf16)), Σ' (L6 : List (View.Piece (Elt F) S128x4096 .fp8e4m3)), { L7 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_w4a8_linear i arg2 harg2 arg3 harg3 arg4 harg4 arg5 harg5 arg6 harg6 arg7 harg7 arg8 harg8 arg9 harg9) K } := by
  refine ⟨?_, ?_, ?_, fun E K => ?run⟩
  case run =>
    simp only [cc0_w4a8_linear_eq_skeleton]; unfold cc0_w4a8_linear_skel
    simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.KernelIdeal.Body

end
-- ==== Proof.RunLater.lean ====
module

public import proofs.«01_k».proof.Proof.RunFirst

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's one store leaves in the product's buffer at a later grid point, as pieces, with the proof that on
    whole staging buffers — the inputs' at their contents, the codes at `xo6` and the row maxima at `xo7` as earlier points
    left them, the product's at anything — the body runs to a continuation that holds all of these as they were and the
    product's pieces written. -/
noncomputable def runLater (c : Dev nD) (i : grid0.Coords) (arg2 : Memref sig .tc .smem S1 .f32) (harg2 : arg2.IsWhole) (arg3 : Memref sig .tc .vmem S128x4096 .bf16) (harg3 : arg3.IsWhole) (arg4 : Memref sig .tc .vmem S4096x256 .i8) (harg4 : arg4.IsWhole) (arg5 : Memref sig .tc .vmem S32x256 .i32) (harg5 : arg5.IsWhole) (arg6 : Memref sig .tc .vmem S1x256 .f32) (harg6 : arg6.IsWhole) (arg7 : Memref sig .tc .vmem S128x256 .bf16) (harg7 : arg7.IsWhole) (arg8 : Memref sig .tc .vmem S128x4096 .fp8e4m3) (harg8 : arg8.IsWhole) (arg9 : Memref sig .tc .vmem S128x1 .f32) (harg9 : arg9.IsWhole) (hc0 : ¬cond0_0 i)
    (x0 : Vec F S1 .f32) (x1 : Vec F S128x4096 .bf16) (x2 : Vec F S4096x256 .i8) (x3 : Vec F S32x256 .i32) (x4 : Vec F S1x256 .f32) (xo6 : Vec F S128x4096 .fp8e4m3) (xo7 : Vec F S128x1 .f32) :
    { L5 : List (View.Piece (Elt F) S128x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xo6 ∗ owns (c : Thread nD τ) arg9 fullShare xo7) -∗ K ⟨⟩))
          ⊢ wp frame (wpE (defs₀ (F := F)) Variants.none c none) E (cc0_w4a8_linear i arg2 harg2 arg3 harg3 arg4 harg4 arg5 harg5 arg6 harg6 arg7 harg7 arg8 harg8 arg9 harg9) K } := by
  refine ⟨?_, fun E K => ?run⟩
  case run =>
    simp only [cc0_w4a8_linear_eq_skeleton]; unfold cc0_w4a8_linear_skel
    simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; isplitr; · ipureintro; exact harg9.read_unread _
    iexact H7

end Cert.KernelIdeal.Body

end
-- ==== Proof.Block.lean ====
module

public import proofs.«01_k».proof.Proof.RunLater
public import Idealize.ShloMosaic.Lib.WholeRead
public import Idealize.ShloMosaic.Lib.Pipeline.Value
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What one grid point computes, as a function of the blocks it reads. The body is 16 equal steps: each dequantises two
groups of 128 weight rows, sets them one above the other and adds a 128 × 256 by 256 × 256 product to the accumulator. -/

/-- Rows `128 g ‥ 128 g + 127` of the block of packed weights. -/
def rows (x2 : Vec F S4096x256 .i8) (g : Fin 32) : Vec F S128x256 .i8 :=
  fun j => x2 ((Rect.unit (s := S4096x256) ![128 * g.val, 0] S128x256.size (by
    intro a; have := g.isLt
    match a with
    | ⟨0, _⟩ => show 128 * g.val + 128 ≤ 4096; omega
    | ⟨1, _⟩ => show 0 + 256 ≤ 256; omega)).idx j)

/-- Columns `256 s ‥ 256 s + 255` of the codes. -/
def cols (cd : Vec F S128x4096 .fp8e4m3) (s : Fin 16) : Vec F S128x256 .fp8e4m3 :=
  fun j => cd ((Rect.unit (s := S128x4096) ![0, 256 * s.val] S128x256.size (by
    intro a; have := s.isLt
    match a with
    | ⟨0, _⟩ => show 0 + 128 ≤ 128; omega
    | ⟨1, _⟩ => show 256 * s.val + 256 ≤ 4096; omega)).idx j)

theorem slicesRow (g : Fin 32) : S32x256.Slices ![g.val, 0] S1x256 := by
  refine ⟨rfl, fun a => ?_⟩
  have := g.isLt
  match a with
  | ⟨0, _⟩ => show g.val + 1 ≤ 32; omega
  | ⟨1, _⟩ => show 0 + 256 ≤ 256; omega

/-- The half's nibble of each packed byte, in the high four bits of a byte: the bytes are shifted four at a time as one
    word, by four bits for half 0 and not at all for half 1, and the low nibbles are cleared. -/
def nibs (i : grid0.Coords) (v : Vec F S128x256 .i8) : IVec S128x256 8 :=
  bitcast S128x256 8
    (andi (shli (bitcast S32x256 32 v bitcasts_S128x256_w8_S32x256_w32)
        (broadcast S32x256 (Scalar.muli (Scalar.subi 1#32 (BitVec.ofNat 32 (i 1).val)) 4#32)))
      (broadcast S32x256 4042322160#32)) bitcasts_S32x256_w32_S128x256_w8

/-- One group of dequantised weights: the nibbles times a sixteenth of the group's scale. -/
def deq (i : grid0.Coords) (sc : FVec F S32x256 .bf16) (x2 : Vec F S4096x256 .i8) (g : Fin 32) : FVec F S128x256 .fp8e4m3 :=
  truncf .fp8e4m3
    (mulf (sitofp .bf16 (nibs (F := F) i (rows x2 g)))
      (broadcastTo S128x256
        (mulf (extractStridedSlice S1x256 ![g.val, 0] sc (slicesRow g)) (broadcast S1x256 (Scalar.ofBits .bf16 0x3D80#16)))
        broadcasts_S1x256_S128x256)) bitsLt_fp8e4m3_bf16

/-- The two groups of step `s`, one above the other. -/
def two (i : grid0.Coords) (sc : FVec F S32x256 .bf16) (x2 : Vec F S4096x256 .i8) (s : Fin 16) : FVec F S256x256 .fp8e4m3 :=
  concatenate S256x256 0 [⟨S128x256, deq i sc x2 ⟨2 * s.val, by omega⟩⟩, ⟨S128x256, deq i sc x2 ⟨2 * s.val + 1, by omega⟩⟩]
    concatenates_S128x256_S128x256_S256x256_d0

/-- Step `s`: the accumulator plus the codes' columns times the two groups. -/
def step (i : grid0.Coords) (sc : FVec F S32x256 .bf16) (cd : Vec F S128x4096 .fp8e4m3) (x2 : Vec F S4096x256 .i8) (s : Fin 16)
    (acc : FVec F S128x256 .f32) : FVec F S128x256 .f32 :=
  addf acc (matmul dot_S128x256_S256x256_S128x256_1_0_0_1_n_n none (shapeCast S128x256 (cols cd s) shapeCasts_S128x256_S128x256)
    (two i sc x2 s) (constant S128x256 .f32 0x00000000#32))

/-- The accumulator before the first step. -/
def zeroAcc : FVec F S128x256 .f32 := broadcast S128x256 (Scalar.ofBits .f32 0x00000000#32)

/-- The accumulator after the 16 steps. -/
def total (i : grid0.Coords) (sc : FVec F S32x256 .bf16) (cd : Vec F S128x4096 .fp8e4m3) (x2 : Vec F S4096x256 .i8) :
    FVec F S128x256 .f32 :=
  (step i sc cd x2 15 (step i sc cd x2 14 (step i sc cd x2 13 (step i sc cd x2 12 (step i sc cd x2 11 (step i sc cd x2 10 (step i sc cd x2 9 (step i sc cd x2 8 (step i sc cd x2 7 (step i sc cd x2 6 (step i sc cd x2 5 (step i sc cd x2 4 (step i sc cd x2 3 (step i sc cd x2 2 (step i sc cd x2 1 (step i sc cd x2 0 zeroAcc))))))))))))))))

/-- The accumulator times the column's top scale and the activation scale, then times the output scale. -/
def finish (top : IVec S1x256 32) (xs : Elt F .f32) (x4 : Vec F S1x256 .f32) (acc : FVec F S128x256 .f32) : FVec F S128x256 .bf16 :=
  truncf .bf16
    (mulf
      (mulf acc (broadcastTo S128x256
        (mulf (bitcastToFloat .f32 (shli (subi top (broadcast S1x256 5#32)) (broadcast S1x256 23#32))) (broadcast S1x256 xs))
        broadcasts_S1x256_S128x256))
      (broadcastTo S128x256 (shapeCast S1x256 x4 shapeCasts_S1x256_S1x256) broadcasts_S1x256_S128x256)) bitsLt_bf16_f32

/-- The one entry of a one-entry vector. -/
def only (x0 : Vec F S1 .f32) : Elt F .f32 := x0 (Shape.Idx.first (s := S1) (by decide))

/-- The block of the product a grid point stores, from the codes and the blocks of weights and scales. -/
def yBlk (i : grid0.Coords) (x0 : Vec F S1 .f32) (x2 : Vec F S4096x256 .i8) (x3 : Vec F S32x256 .i32) (x4 : Vec F S1x256 .f32)
    (cd : Vec F S128x4096 .fp8e4m3) : Vec F S128x256 .bf16 :=
  finish (k0_pay5 x3) (only x0) x4 (total i (k0_pay6 x3) cd x2)

/-- The codes the first grid point stores. -/
def cdBlk (x0 : Vec F S1 .f32) (x1 : Vec F S128x4096 .bf16) : Vec F S128x4096 .fp8e4m3 := k0_pay3 x1 (only x0)

/-- The row maxima the first grid point stores. -/
def mxBlk (x1 : Vec F S128x4096 .bf16) : Vec F S128x1 .f32 := k0_pay2 x1

section Reads
variable {Val : EltTy → Type} {sig' : RefSig} {κ : Kind} {sp : Space} {s : Shape} {e : EltTy}

/-- A load of a whole buffer whose contents read `X` reads `X` at the load's indices. -/
theorem load_unread {mr : Memref sig' κ sp s e} (h : mr.IsWhole) (X : s.Idx → Val e) (B : LoadRect s) :
    View.readAt Val mr.view B (h.unread X) = fun x => X (B.idx x) := funext fun x => h.readAt_unread X B x

end Reads

theorem zeros2 : (![0, 0] : Fin 2 → ℕ) = fun _ => 0 := by decide
theorem zeros1 : (![0] : Fin 1 → ℕ) = fun _ => 0 := by decide

end Cert.KernelIdeal.Body

end
-- ==== Proof.Outs.lean ====
module

public import proofs.«01_k».proof.Proof.Block

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the two runs leave, named by `yBlk`, `cdBlk` and `mxBlk`. -/

section Whole
variable {Val : EltTy → Type} {e : EltTy}
theorem whole_S1 (X : S1.Idx → Val e) : (fun x => X ((Rect.unit (s := S1) ![0] S1.size inb_S1_S1_0).toLoadRect.idx x)) = X :=
  View.ld_unit_zero (S := S1) zeros1 inb_S1_S1_0 X
theorem whole_S32x256 (X : S32x256.Idx → Val e) :
    (fun x => X ((Rect.unit (s := S32x256) ![0, 0] S32x256.size inb_S32x256_S32x256_0_0).toLoadRect.idx x)) = X :=
  View.ld_unit_zero (S := S32x256) zeros2 inb_S32x256_S32x256_0_0 X
theorem whole_S1x256 (X : S1x256.Idx → Val e) :
    (fun x => X ((Rect.unit (s := S1x256) ![0, 0] S1x256.size inb_S1x256_S1x256_0_0).toLoadRect.idx x)) = X :=
  View.ld_unit_zero (S := S1x256) zeros2 inb_S1x256_S1x256_0_0 X
theorem whole_S128x4096 (X : S128x4096.Idx → Val e) :
    (fun x => X ((Rect.unit (s := S128x4096) ![0, 0] S128x4096.size inb_S128x4096_S128x4096_0_0).toLoadRect.idx x)) = X :=
  View.ld_unit_zero (S := S128x4096) zeros2 inb_S128x4096_S128x4096_0_0 X
end Whole

/-- A one-entry vector read anywhere is its entry. -/
theorem only_eq (x0 : Vec F S1 .f32) (j : (Rect.unit (s := S1) ![0] ![1] inb_S1_S1_0).shape.Idx) :
    x0 ((Rect.unit (s := S1) ![0] ![1] inb_S1_S1_0).idx j) = only x0 := by
  refine congrArg x0 (funext fun a => Fin.ext ?_)
  match a with
  | ⟨0, _⟩ =>
    have h1 := ((Rect.unit (s := S1) ![0] ![1] inb_S1_S1_0).idx j ⟨0, by decide⟩).isLt
    have h2 := (Shape.Idx.first (s := S1) (by decide) ⟨0, by decide⟩).isLt
    exact (Nat.lt_one_iff.mp h1).trans (Nat.lt_one_iff.mp h2).symm

set_option maxHeartbeats 4000000 in
/-- At a later point the body leaves the block `yBlk` of the codes it finds. -/
theorem later_piece (c : Dev nD) (i : grid0.Coords) (arg2 : Memref sig .tc .smem S1 .f32) (harg2 : arg2.IsWhole) (arg3 : Memref sig .tc .vmem S128x4096 .bf16) (harg3 : arg3.IsWhole) (arg4 : Memref sig .tc .vmem S4096x256 .i8) (harg4 : arg4.IsWhole) (arg5 : Memref sig .tc .vmem S32x256 .i32) (harg5 : arg5.IsWhole) (arg6 : Memref sig .tc .vmem S1x256 .f32) (harg6 : arg6.IsWhole) (arg7 : Memref sig .tc .vmem S128x256 .bf16) (harg7 : arg7.IsWhole) (arg8 : Memref sig .tc .vmem S128x4096 .fp8e4m3) (harg8 : arg8.IsWhole) (arg9 : Memref sig .tc .vmem S128x1 .f32) (harg9 : arg9.IsWhole) (hc0 : ¬cond0_0 i) (x0 : Vec F S1 .f32) (x1 : Vec F S128x4096 .bf16) (x2 : Vec F S4096x256 .i8) (x3 : Vec F S32x256 .i32) (x4 : Vec F S1x256 .f32) (xo6 : Vec F S128x4096 .fp8e4m3) (xo7 : Vec F S128x1 .f32) :
    (runLater c i arg2 harg2 arg3 harg3 arg4 harg4 arg5 harg5 arg6 harg6 arg7 harg7 arg8 harg8 arg9 harg9 hc0 x0 x1 x2 x3 x4 xo6 xo7).1
      = [⟨Rect.unit ![0, 0] ![128, 256] inb_S128x256_S128x256_0_0, yBlk i x0 x2 x3 x4 xo6⟩] := by
  unfold runLater
  dsimp only
  simp only [
    runLater.sl.r, runLater.sl.r_1, runLater.sl.r_10, runLater.sl.r_11, runLater.sl.r_12, runLater.sl.r_13,
    runLater.sl.r_14, runLater.sl.r_15, runLater.sl.r_16, runLater.sl.r_17, runLater.sl.r_18, runLater.sl.r_19,
    runLater.sl.r_2, runLater.sl.r_20, runLater.sl.r_21, runLater.sl.r_22, runLater.sl.r_23, runLater.sl.r_24,
    runLater.sl.r_25, runLater.sl.r_26, runLater.sl.r_27, runLater.sl.r_28, runLater.sl.r_29, runLater.sl.r_3,
    runLater.sl.r_30, runLater.sl.r_31, runLater.sl.r_32, runLater.sl.r_33, runLater.sl.r_34, runLater.sl.r_35,
    runLater.sl.r_36, runLater.sl.r_37, runLater.sl.r_38, runLater.sl.r_39, runLater.sl.r_4, runLater.sl.r_5,
    runLater.sl.r_6, runLater.sl.r_7, runLater.sl.r_8, runLater.sl.r_9, runLater.sl.v207, runLater.sl.v37,
    load_unread]
  simp only [only_eq, whole_S32x256, whole_S1x256]
  rfl

/-- A load of the codes' buffer after the store that fills it reads the stored codes at the load's indices. -/
theorem readCov_codes {κ : Kind} {sp : Space} (v : View sig κ sp S128x4096 .fp8e4m3) (w : Vec F S128x4096 .fp8e4m3)
    (B : LoadRect S128x4096) :
    v.readCov [(⟨Rect.unit ![0, 0] S128x4096.size inb_S128x4096_S128x4096_0_0, w⟩ : View.Piece (Elt F) S128x4096 .fp8e4m3)] B
      = fun x => w (B.idx x) := by
  rw [View.readCov_eq_canon _ _ _ fun j => ⟨_, List.mem_singleton_self _, View.mem_set_unit_zero zeros2 inb_S128x4096_S128x4096_0_0 _⟩]
  funext x
  rw [View.canon_unit_zero zeros2]

set_option maxHeartbeats 4000000 in
/-- At the first point the body leaves the codes of the activations, -/
theorem first_codes (c : Dev nD) (i : grid0.Coords) (arg2 : Memref sig .tc .smem S1 .f32) (harg2 : arg2.IsWhole) (arg3 : Memref sig .tc .vmem S128x4096 .bf16) (harg3 : arg3.IsWhole) (arg4 : Memref sig .tc .vmem S4096x256 .i8) (harg4 : arg4.IsWhole) (arg5 : Memref sig .tc .vmem S32x256 .i32) (harg5 : arg5.IsWhole) (arg6 : Memref sig .tc .vmem S1x256 .f32) (harg6 : arg6.IsWhole) (arg7 : Memref sig .tc .vmem S128x256 .bf16) (harg7 : arg7.IsWhole) (arg8 : Memref sig .tc .vmem S128x4096 .fp8e4m3) (harg8 : arg8.IsWhole) (arg9 : Memref sig .tc .vmem S128x1 .f32) (harg9 : arg9.IsWhole) (hc0 : cond0_0 i) (x0 : Vec F S1 .f32) (x1 : Vec F S128x4096 .bf16) (x2 : Vec F S4096x256 .i8) (x3 : Vec F S32x256 .i32) (x4 : Vec F S1x256 .f32) :
    (runFirst c i arg2 harg2 arg3 harg3 arg4 harg4 arg5 harg5 arg6 harg6 arg7 harg7 arg8 harg8 arg9 harg9 hc0 x0 x1 x2 x3 x4).2.1
      = [⟨Rect.unit ![0, 0] S128x4096.size inb_S128x4096_S128x4096_0_0, cdBlk x0 x1⟩] := by
  unfold runFirst
  dsimp only
  simp only [runFirst.sl.H6_1, runFirst.sl.r, load_unread]
  simp only [only_eq, whole_S128x4096]
  rfl

/-- (so that a load of the codes' buffer after their store reads them) -/
theorem readCov_first (c : Dev nD) (arg2 : Memref sig .tc .smem S1 .f32) (harg2 : arg2.IsWhole) (arg3 : Memref sig .tc .vmem S128x4096 .bf16) (harg3 : arg3.IsWhole)
    (v : View sig .tc .vmem S128x4096 .fp8e4m3) (x0 : Vec F S1 .f32) (x1 : Vec F S128x4096 .bf16) (B : LoadRect S128x4096) :
    v.readCov (runFirst.sl.H6_1 c arg2 harg2 arg3 harg3 x0 x1) B = fun x => cdBlk x0 x1 (B.idx x) := by
  have h : runFirst.sl.H6_1 c arg2 harg2 arg3 harg3 x0 x1
      = [⟨Rect.unit ![0, 0] S128x4096.size inb_S128x4096_S128x4096_0_0, cdBlk x0 x1⟩] := by
    simp only [runFirst.sl.H6_1, runFirst.sl.r, load_unread]
    simp only [only_eq, whole_S128x4096]
    rfl
  rw [h, readCov_codes]

/-- the row maxima, -/
theorem first_maxima (c : Dev nD) (i : grid0.Coords) (arg2 : Memref sig .tc .smem S1 .f32) (harg2 : arg2.IsWhole) (arg3 : Memref sig .tc .vmem S128x4096 .bf16) (harg3 : arg3.IsWhole) (arg4 : Memref sig .tc .vmem S4096x256 .i8) (harg4 : arg4.IsWhole) (arg5 : Memref sig .tc .vmem S32x256 .i32) (harg5 : arg5.IsWhole) (arg6 : Memref sig .tc .vmem S1x256 .f32) (harg6 : arg6.IsWhole) (arg7 : Memref sig .tc .vmem S128x256 .bf16) (harg7 : arg7.IsWhole) (arg8 : Memref sig .tc .vmem S128x4096 .fp8e4m3) (harg8 : arg8.IsWhole) (arg9 : Memref sig .tc .vmem S128x1 .f32) (harg9 : arg9.IsWhole) (hc0 : cond0_0 i) (x0 : Vec F S1 .f32) (x1 : Vec F S128x4096 .bf16) (x2 : Vec F S4096x256 .i8) (x3 : Vec F S32x256 .i32) (x4 : Vec F S1x256 .f32) :
    (runFirst c i arg2 harg2 arg3 harg3 arg4 harg4 arg5 harg5 arg6 harg6 arg7 harg7 arg8 harg8 arg9 harg9 hc0 x0 x1 x2 x3 x4).2.2.1
      = [⟨Rect.unit ![0, 0] S128x1.size inb_S128x1_S128x1_0_0, mxBlk x1⟩] := by
  unfold runFirst
  dsimp only
  simp only [load_unread]
  simp only [whole_S128x4096]
  rfl

set_option maxHeartbeats 4000000 in
/-- and the block `yBlk` of the codes it has just stored. -/
theorem first_piece (c : Dev nD) (i : grid0.Coords) (arg2 : Memref sig .tc .smem S1 .f32) (harg2 : arg2.IsWhole) (arg3 : Memref sig .tc .vmem S128x4096 .bf16) (harg3 : arg3.IsWhole) (arg4 : Memref sig .tc .vmem S4096x256 .i8) (harg4 : arg4.IsWhole) (arg5 : Memref sig .tc .vmem S32x256 .i32) (harg5 : arg5.IsWhole) (arg6 : Memref sig .tc .vmem S1x256 .f32) (harg6 : arg6.IsWhole) (arg7 : Memref sig .tc .vmem S128x256 .bf16) (harg7 : arg7.IsWhole) (arg8 : Memref sig .tc .vmem S128x4096 .fp8e4m3) (harg8 : arg8.IsWhole) (arg9 : Memref sig .tc .vmem S128x1 .f32) (harg9 : arg9.IsWhole) (hc0 : cond0_0 i) (x0 : Vec F S1 .f32) (x1 : Vec F S128x4096 .bf16) (x2 : Vec F S4096x256 .i8) (x3 : Vec F S32x256 .i32) (x4 : Vec F S1x256 .f32) :
    (runFirst c i arg2 harg2 arg3 harg3 arg4 harg4 arg5 harg5 arg6 harg6 arg7 harg7 arg8 harg8 arg9 harg9 hc0 x0 x1 x2 x3 x4).1
      = [⟨Rect.unit ![0, 0] ![128, 256] inb_S128x256_S128x256_0_0, yBlk i x0 x2 x3 x4 (cdBlk x0 x1)⟩] := by
  unfold runFirst
  dsimp only
  simp only [
    runFirst.sl.r, runFirst.sl.r_1, runFirst.sl.r_10, runFirst.sl.r_11, runFirst.sl.r_12, runFirst.sl.r_13,
    runFirst.sl.r_14, runFirst.sl.r_15, runFirst.sl.r_16, runFirst.sl.r_17, runFirst.sl.r_18, runFirst.sl.r_19,
    runFirst.sl.r_2, runFirst.sl.r_20, runFirst.sl.r_21, runFirst.sl.r_22, runFirst.sl.r_23, runFirst.sl.r_24,
    runFirst.sl.r_25, runFirst.sl.r_26, runFirst.sl.r_27, runFirst.sl.r_28, runFirst.sl.r_29, runFirst.sl.r_3,
    runFirst.sl.r_30, runFirst.sl.r_31, runFirst.sl.r_32, runFirst.sl.r_33, runFirst.sl.r_34, runFirst.sl.r_35,
    runFirst.sl.r_36, runFirst.sl.r_37, runFirst.sl.r_38, runFirst.sl.r_4, runFirst.sl.r_5, runFirst.sl.r_6,
    runFirst.sl.r_7, runFirst.sl.r_8, runFirst.sl.r_9, runFirst.sl.v126, runFirst.sl.v163, runFirst.sl.v200,
    runFirst.sl.v207, runFirst.sl.v237, runFirst.sl.v274, runFirst.sl.v311, runFirst.sl.v348, runFirst.sl.v37,
    runFirst.sl.v385, runFirst.sl.v422, runFirst.sl.v459, runFirst.sl.v496, runFirst.sl.v52, runFirst.sl.v533,
    runFirst.sl.v570, runFirst.sl.v607, runFirst.sl.v89,
    load_unread, readCov_first]
  simp only [only_eq, whole_S32x256, whole_S1x256, whole_S128x4096]
  rfl

end Cert.KernelIdeal.Body

end
-- ==== Proof.KernelFrame.lean ====
module

public import proofs.«01_k».proof.Proof.Outs

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The pipeline's proof data, the body's obligation at every point and the run: after it each result array holds what the
proof data say was written back. The codes and the row maxima are stored at the first point only and written back at the
last; at the points between the body leaves their buffers as it found them. -/

/-- The first grid point. -/
abbrev p0 : Fin cfg0.N := ⟨0, by rw [show cfg0.N = 86 from N_0]; decide⟩

/-- The codes every grid point reads: those of the first point's blocks. -/
def codes (c : Dev nD) : Vec F S128x4096 .fp8e4m3 := cdBlk (iblk m c 0 p0) (iblk m c 1 p0)

/-- The row maxima. -/
def maxima (c : Dev nD) : Vec F S128x1 .f32 := mxBlk (iblk m c 1 p0)

/-- The block of the product grid point `t` stores. -/
def prod (c : Dev nD) (t : Fin cfg0.N) : Vec F S128x256 .bf16 :=
  yBlk (grid0.coords t) (iblk m c 0 t) (iblk m c 2 t) (iblk m c 3 t) (iblk m c 4 t) (codes m c)

/-- The proof data: the arrays as the region finds them, and after the body at point `t` each input's buffer at its block, the
    product's at `prod`, the codes' and the maxima's at `codes` and `maxima`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => prod m c t
    | ⟨6, _⟩ => codes m c
    | ⟨7, _⟩ => maxima m c
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = prod m c t := by dsimp only [dats]
theorem after_6 (c : Dev nD) (t : Fin cfg0.N) : (dats m 0 c).after 6 t = codes m c := by dsimp only [dats]
theorem after_7 (c : Dev nD) (t : Fin cfg0.N) : (dats m 0 c).after 7 t = maxima m c := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The codes' and the maxima's buffers between the first point and the last -/

/-- Whether those buffers hold nothing stored since the region's entry or the last write-back: at position 0, and at the
    position after the last write-back. -/
def freshTab : ℕ → Bool
  | 0 => true
  | n + 1 => (0x2000000000000000000000 : ℕ).testBit n
theorem freshTab_step6 : ∀ t : Fin cfg0.N,
    freshTab (t.val + 1) = ((cfg0.win 6).flush t || (cfg0.idle 6 (cfg0.grid.coords t) && freshTab t.val)) := by decide +kernel
theorem freshTab_step7 : ∀ t : Fin cfg0.N,
    freshTab (t.val + 1) = ((cfg0.win 7).flush t || (cfg0.idle 7 (cfg0.grid.coords t) && freshTab t.val)) := by decide +kernel
theorem fresh6_eq (t : Fin cfg0.N) : cfg0.fresh 6 t.val = freshTab t.val :=
  Pipeline.Cfg.fresh_tab cfg0 6 freshTab rfl freshTab_step6 t.val (Nat.le_of_lt t.isLt)
theorem fresh7_eq (t : Fin cfg0.N) : cfg0.fresh 7 t.val = freshTab t.val :=
  Pipeline.Cfg.fresh_tab cfg0 7 freshTab rfl freshTab_step7 t.val (Nat.le_of_lt t.isLt)
theorem notFresh6 : ∀ t : Fin cfg0.N, ¬cond0_0 (grid0.coords t) → cfg0.fresh 6 t.val = false := by
  intro t; rw [fresh6_eq t]; revert t; decide +kernel
theorem notFresh7 : ∀ t : Fin cfg0.N, ¬cond0_0 (grid0.coords t) → cfg0.fresh 7 t.val = false := by
  intro t; rw [fresh7_eq t]; revert t; decide +kernel
theorem liveAt_5 : ∀ t : Fin cfg0.N, cfg0.idle 5 (grid0.coords t) = false := fun _ => rfl
theorem liveAt_6 : ∀ t : Fin cfg0.N, cond0_0 (grid0.coords t) → cfg0.idle 6 (grid0.coords t) = false := by decide +kernel
theorem liveAt_7 : ∀ t : Fin cfg0.N, cond0_0 (grid0.coords t) → cfg0.idle 7 (grid0.coords t) = false := by decide +kernel

/-- After the first point the codes' buffer holds the codes, -/
theorem before_6 (c : Dev nD) (t : Fin cfg0.N) (h0 : ¬cond0_0 (grid0.coords t)) (d) : (dats m 0 c).before 6 t d = codes m c := by
  rw [Dat.before_out_traj _ 6 rfl (fun _ _ => rfl) (fun t _ _ _ => by rw [after_6, after_6]) t.val t rfl d,
    if_neg (by rw [notFresh6 t h0]; exact Bool.false_ne_true), after_6]
/-- and the maxima's the maxima. -/
theorem before_7 (c : Dev nD) (t : Fin cfg0.N) (h0 : ¬cond0_0 (grid0.coords t)) (d) : (dats m 0 c).before 7 t d = maxima m c := by
  rw [Dat.before_out_traj _ 7 rfl (fun _ _ => rfl) (fun t _ _ _ => by rw [after_7, after_7]) t.val t rfl d,
    if_neg (by rw [notFresh7 t h0]; exact Bool.false_ne_true), after_7]

/-- So a buffer that holds the codes after the first point is what the pipeline asks back, written back there or not. -/
theorem leaves_6 (c : Dev nD) (t : Fin cfg0.N) (h0 : ¬cond0_0 (grid0.coords t)) :
    (owns (c : Thread nD τ) (ms0_6 t) fullShare (codes m c) : sProp 𝕄) ⊢ (dats m 0 c).leavesExact 6 t := by
  unfold Dat.leavesExact
  split
  · split
    · simp only [before_6 m c t h0]
      iintro H; iexists (codes m c); iexact H
    · rw [after_6]
  · rw [after_6]
theorem leaves_7 (c : Dev nD) (t : Fin cfg0.N) (h0 : ¬cond0_0 (grid0.coords t)) :
    (owns (c : Thread nD τ) (ms0_7 t) fullShare (maxima m c) : sProp 𝕄) ⊢ (dats m 0 c).leavesExact 7 t := by
  unfold Dat.leavesExact
  split
  · split
    · simp only [before_7 m c t h0]
      iintro H; iexists (maxima m c); iexact H
    · rw [after_7]
  · rw [after_7]

/-- Contents written through one covering piece read as its payload. -/
theorem read_piece {S : Shape} {e : EltTy} {sp : Space} (v : View sig .tc sp S e) (f) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ fun y => ⟨_, List.mem_singleton_self _, View.mem_set_unit_zero h inb y⟩,
    View.canon_unit_zero h]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at the first point. -/
theorem sound_first (c : Dev nD) (t : Fin cfg0.N) (h0 : cond0_0 (grid0.coords t)) (ht : t = p0) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after_0]
  rw [show (dats m 0 c).leavesExact 1 t = owns (c : Thread nD τ) (ms0_1 t) fullShare ((dats m 0 c).after 1 t) from by
      unfold Dat.leavesExact; rw [liveAt0_1 t], after_1]
  rw [show (dats m 0 c).leavesExact 2 t = owns (c : Thread nD τ) (ms0_2 t) fullShare ((dats m 0 c).after 2 t) from by
      unfold Dat.leavesExact; rw [liveAt0_2 t], after_2]
  rw [show (dats m 0 c).leavesExact 3 t = owns (c : Thread nD τ) (ms0_3 t) fullShare ((dats m 0 c).after 3 t) from by
      unfold Dat.leavesExact; rw [liveAt0_3 t], after_3]
  rw [show (dats m 0 c).leavesExact 4 t = owns (c : Thread nD τ) (ms0_4 t) fullShare ((dats m 0 c).after 4 t) from by
      unfold Dat.leavesExact; rw [liveAt0_4 t], after_4]
  rw [show (dats m 0 c).leavesExact 5 t = owns (c : Thread nD τ) (ms0_5 t) fullShare ((dats m 0 c).after 5 t) from by
      unfold Dat.leavesExact; rw [liveAt_5 t], after_5]
  rw [show (dats m 0 c).leavesExact 6 t = owns (c : Thread nD τ) (ms0_6 t) fullShare ((dats m 0 c).after 6 t) from by
        unfold Dat.leavesExact; rw [liveAt_6 t h0], after_6]
  rw [show (dats m 0 c).leavesExact 7 t = owns (c : Thread nD τ) (ms0_7 t) fullShare ((dats m 0 c).after 7 t) from by
        unfold Dat.leavesExact; rw [liveAt_7 t h0], after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst c (grid0.coords t) _ (hs0_0 t) _ (hs0_1 t) _ (hs0_2 t) _ (hs0_3 t) _ (hs0_4 t) _ (hs0_5 t) _ (hs0_6 t) _ (hs0_7 t) h0 (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [first_piece]; exact (read_piece _ _ zeros2 _ _).trans (by subst ht; rfl)
  isplitl [H6]
  · unfold owns; iexists _; isplitr
    swap; · iexact H6
    ipureintro; rw [first_codes]; exact (read_piece _ _ zeros2 _ _).trans (by subst ht; rfl)
  unfold owns; iexists _; isplitr
  swap; · iexact H7
  ipureintro; rw [first_maxima]; exact (read_piece _ _ zeros2 _ _).trans (by subst ht; rfl)

set_option maxHeartbeats 1600000 in
/-- The body at a later point. -/
theorem sound_later (c : Dev nD) (t : Fin cfg0.N) (h0 : ¬cond0_0 (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  simp only [before_6 m c t h0, before_7 m c t h0]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after_0]
  rw [show (dats m 0 c).leavesExact 1 t = owns (c : Thread nD τ) (ms0_1 t) fullShare ((dats m 0 c).after 1 t) from by
      unfold Dat.leavesExact; rw [liveAt0_1 t], after_1]
  rw [show (dats m 0 c).leavesExact 2 t = owns (c : Thread nD τ) (ms0_2 t) fullShare ((dats m 0 c).after 2 t) from by
      unfold Dat.leavesExact; rw [liveAt0_2 t], after_2]
  rw [show (dats m 0 c).leavesExact 3 t = owns (c : Thread nD τ) (ms0_3 t) fullShare ((dats m 0 c).after 3 t) from by
      unfold Dat.leavesExact; rw [liveAt0_3 t], after_3]
  rw [show (dats m 0 c).leavesExact 4 t = owns (c : Thread nD τ) (ms0_4 t) fullShare ((dats m 0 c).after 4 t) from by
      unfold Dat.leavesExact; rw [liveAt0_4 t], after_4]
  rw [show (dats m 0 c).leavesExact 5 t = owns (c : Thread nD τ) (ms0_5 t) fullShare ((dats m 0 c).after 5 t) from by
      unfold Dat.leavesExact; rw [liveAt_5 t], after_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runLater c (grid0.coords t) _ (hs0_0 t) _ (hs0_1 t) _ (hs0_2 t) _ (hs0_3 t) _ (hs0_4 t) _ (hs0_5 t) _ (hs0_6 t) _ (hs0_7 t) h0 (iblk m c 0 t) (iblk m c 1 t) (iblk m c 2 t) (iblk m c 3 t) (iblk m c 4 t) (codes m c) (maxima m c)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  iintro ⟨H0, H1, H2, H3, H4, ⟨%e5, H5⟩, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [later_piece]; exact read_piece _ _ zeros2 _ _
  isplitl [H6]
  · iapply (leaves_6 m c t h0); iexact H6
  iapply (leaves_7 m c t h0); iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : cond0_0 (grid0.coords t)
  · have hN : t.val < 86 := lt_of_lt_of_eq t.isLt (show cfg0.N = 86 from N_0)
    have := (hcond0_0 t).mp h0
    exact sound_first m c t h0 (Fin.ext (by show t.val = 0; omega))
  · exact sound_later m c t h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.BlockValue.lean ====
module

public import proofs.«01_k».proof.Proof.Block
public import proofs.«01_k».proof.Proof.Words
public import Idealize.ShloMosaic.Lib.MatmulPlain
public import Idealize.ShloMosaic.Lib.ValueIdx
public import Idealize.ShloMosaic.Lib.ValueIdxCoords
public import Idealize.ShloMosaic.Lib.Pointwise

@[expose] public section

set_option maxRecDepth 16384

noncomputable section

namespace Cert.KernelIdeal.Body

open Cert.KernelIdeal Cert.KernelIdeal.Gen
open Idealize.ShloMosaic hiding ix1 ix2 ix3 truncf_apply mulf_apply addf_apply constant_apply divf_apply extf_apply maximumf_apply minimumf_apply
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Words

/-! One grid point's block of the product at the ideal instance, index by index. -/

/-- The half of the columns a grid point works on. -/
abbrev half (i : grid0.Coords) : ℕ := (i 1).val

theorem half_lt (i : grid0.Coords) : half i < 2 := (i 1).isLt

/-- The word the bytes are shifted by, in numbers. -/
theorem shift_word {h : ℕ} (hh : h < 2) :
    Scalar.muli (Scalar.subi 1#32 (BitVec.ofNat 32 h)) 4#32 = BitVec.ofNat 32 ((1 - h) * 4) := by
  interval_cases h <;> decide

/-- A dequantised byte is sixteen times its half's nibble. -/
theorem nibs_apply (i : grid0.Coords) (v : Vec Ideal S128x256 .i8) (p : Fin 128) (q : Fin 256) :
    nibs (F := Ideal) i v (ix2 p q) = (v (ix2 p q) <<< ((1 - half i) * 4)) &&& 0xF0#8 :=
  bitcast_masked v bitcasts_S128x256_w8_S32x256_w32 bitcasts_S32x256_w32_S128x256_w8 rfl _
    (by have := half_lt i; omega) _ (shift_word (half_lt i)) p q

/-- Row `p` of group `g` is row `128 g + p` of the block. -/
theorem rows_apply (x2 : Vec Ideal S4096x256 .i8) (g : Fin 32) (p : Fin 128) (q : Fin 256) (k : Fin 4096) (hk : k.val = 128 * g.val + p.val) :
    rows x2 g (ix2 p q) = x2 (ix2 k q) := by
  unfold rows
  refine congrArg x2 (funext fun a => Fin.ext ?_)
  match a with
  | ⟨0, _⟩ => show 128 * g.val + 1 * p.val = k.val; omega
  | ⟨1, _⟩ => show 0 + 1 * q.val = q.val; omega

/-- Column `k` of step `s` is column `256 s + k` of the codes. -/
theorem cols_apply (cd : Vec Ideal S128x4096 .fp8e4m3) (s : Fin 16) (r : Fin 128) (k : Fin 256) (k' : Fin 4096) (hk : k'.val = 256 * s.val + k.val) :
    cols cd s (ix2 r k) = cd (ix2 r k') := by
  unfold cols
  refine congrArg cd (funext fun a => Fin.ext ?_)
  match a with
  | ⟨0, _⟩ => show 0 + 1 * r.val = r.val; omega
  | ⟨1, _⟩ => show 256 * s.val + 1 * k.val = k'.val; omega

/-- The group of a weight row. -/
abbrev grp (k : Fin 4096) : Fin 32 := ⟨k.val / 128, by have := k.isLt; omega⟩

/-- The dequantised weight of row `k`, lane `q`: sixteen times the nibble, times a sixteenth of the group's relative scale. -/
def wt (i : grid0.Coords) (sc : FVec Ideal S32x256 .bf16) (x2 : Vec Ideal S4096x256 .i8) (k : Fin 4096) (q : Fin 256) : EReal :=
  ((16 * ((nibble (half i) (x2 (ix2 k q))).toInt : ℝ) : ℝ) : EReal) * (sc (ix2 (grp k) q) * ((1 / 16 : ℝ) : EReal))

theorem deq_apply (i : grid0.Coords) (sc : FVec Ideal S32x256 .bf16) (x2 : Vec Ideal S4096x256 .i8) (g : Fin 32) (p : Fin 128) (q : Fin 256)
    (k : Fin 4096) (hk : k.val = 128 * g.val + p.val) : deq i sc x2 g (ix2 p q) = wt i sc x2 k q := by
  unfold deq wt
  rw [truncf_apply, mulf_apply, sitofp_apply,
    broadcastTo_apply _ broadcasts_S1x256_S128x256 (ix2 p q) (ix2 u0 q) (fun a => match a with | ⟨0, _⟩ => rfl | ⟨1, _⟩ => rfl),
    mulf_apply, broadcast_apply,
    extractStridedSlice_apply _ sc (slicesRow g) (ix2 u0 q) (ix2 (grp k) q) (fun a => match a with
      | ⟨0, _⟩ => by have := p.isLt; show k.val / 128 = g.val + 0; omega
      | ⟨1, _⟩ => by show q.val = 0 + q.val; omega),
    nibs_apply, rows_apply x2 g p q k hk]
  have e1 : (Scalar.ofBits (F := Ideal) .bf16 0x3D80#16) = ((1 / 16 : ℝ) : EReal) := ofBits_sixteenth
  have e2 : (FloatOps.sitofp (F := Ideal) .bf16 ((x2 (ix2 k q) <<< ((1 - half i) * 4)) &&& 0xF0#8) : EReal)
      = ((16 * ((nibble (half i) (x2 (ix2 k q))).toInt : ℝ) : ℝ) : EReal) := by
    show (((((x2 (ix2 k q) <<< ((1 - half i) * 4)) &&& 0xF0#8).toInt : ℤ) : ℝ) : EReal) = _
    rw [toInt_sixteen (half_lt i)]; push_cast; rfl
  rw [e1, e2]

theorem two_apply (i : grid0.Coords) (sc : FVec Ideal S32x256 .bf16) (x2 : Vec Ideal S4096x256 .i8) (s : Fin 16) (k : Fin 256) (q : Fin 256)
    (k' : Fin 4096) (hk : k'.val = 256 * s.val + k.val) : two i sc x2 s (ix2 k q) = wt i sc x2 k' q := by
  unfold two
  by_cases h : k.val < 128
  · rw [concatenate_pair_apply_left (s₁ := S128x256) (s₂ := S128x256) 0 _ _ _ (ix2 k q) rfl (ix2 (⟨k.val, h⟩ : Fin 128) q) (fun b => match b with | ⟨0, _⟩ => rfl | ⟨1, _⟩ => rfl)]
    exact deq_apply i sc x2 _ _ q k' (by show k'.val = 128 * (2 * s.val) + k.val; omega)
  · have hk' := k.isLt
    rw [concatenate_pair_apply_right (s₁ := S128x256) (s₂ := S128x256) 0 _ _ _ (ix2 k q) rfl rfl (ix2 (⟨k.val - 128, by omega⟩ : Fin 128) q)
      (fun b hb => match b, hb with | ⟨0, _⟩, hb => absurd rfl hb | ⟨1, _⟩, _ => rfl)
      (by show k.val - 128 + 128 = k.val; omega)]
    exact deq_apply i sc x2 _ _ q k' (by show k'.val = 128 * (2 * s.val + 1) + (k.val - 128); omega)

/-- Row `256 s + k` of the weights. -/
abbrev row256 (s : Fin 16) (k : Fin 256) : Fin 4096 := ⟨256 * s.val + k.val, by have := s.isLt; have := k.isLt; omega⟩

theorem step_apply (i : grid0.Coords) (sc : FVec Ideal S32x256 .bf16) (cd : Vec Ideal S128x4096 .fp8e4m3) (x2 : Vec Ideal S4096x256 .i8)
    (s : Fin 16) (acc : FVec Ideal S128x256 .f32) (r : Fin 128) (q : Fin 256) :
    step i sc cd x2 s acc (ix2 r q) = acc (ix2 r q) + ∑ k : Fin 256, cd (ix2 r (row256 s k)) * wt i sc x2 (row256 s k) q := by
  unfold step
  rw [addf_apply]
  refine congrArg (acc (ix2 r q) + ·) ?_
  refine (Ideal.matmul_plain_apply (M := 128) (K := 256) (N := 256) none _ _ _ r q).trans ?_
  rw [constant_apply, show Ideal.ofBits .f32 0x00000000#32 = 0 from by simp [Ideal.ofBits, Ideal.ieee], zero_add]
  refine Finset.sum_congr rfl fun k _ => ?_
  rw [shapeCast_self, cols_apply cd s r k (row256 s k) rfl, two_apply i sc x2 s k q (row256 s k) rfl]

/-- A sum over the 4096 rows in 16 steps of 256. -/
theorem sum_steps (f : Fin 4096 → EReal) : ∑ k, f k = ∑ s : Fin 16, ∑ k : Fin 256, f (row256 s k) := by
  rw [← Fintype.sum_prod_type', ← Equiv.sum_comp (finProdFinEquiv (m := 16) (n := 256)) f]
  refine Finset.sum_congr rfl fun x _ => congrArg f (Fin.ext ?_)
  show x.2.val + 256 * x.1.val = 256 * x.1.val + x.2.val
  omega

/-- THE ACCUMULATOR: the codes' row times the dequantised column, over all 4096 rows. -/
theorem total_apply (i : grid0.Coords) (sc : FVec Ideal S32x256 .bf16) (cd : Vec Ideal S128x4096 .fp8e4m3) (x2 : Vec Ideal S4096x256 .i8)
    (r : Fin 128) (q : Fin 256) : total i sc cd x2 (ix2 r q) = ∑ k : Fin 4096, cd (ix2 r k) * wt i sc x2 k q := by
  have hz : zeroAcc (F := Ideal) (ix2 r q) = 0 := by
    show Ideal.ofBits .f32 0x00000000#32 = 0
    simp [Ideal.ofBits, Ideal.ieee]
  rw [sum_steps]
  obtain ⟨T, hT⟩ : ∃ T : Fin 16 → EReal, T = fun s => ∑ k : Fin 256, cd (ix2 r (row256 s k)) * wt i sc x2 (row256 s k) q := ⟨_, rfl⟩
  have hs : ∀ (s : Fin 16) (acc : FVec Ideal S128x256 .f32), step i sc cd x2 s acc (ix2 r q) = acc (ix2 r q) + T s := by
    intro s acc; rw [step_apply, hT]
  show _ = ∑ s, (fun s => ∑ k : Fin 256, cd (ix2 r (row256 s k)) * wt i sc x2 (row256 s k) q) s
  rw [← hT]
  unfold total
  simp only [hs, hz]
  simp only [Fin.sum_univ_castSucc, Fin.sum_univ_zero]
  rfl

/-- The block of the product at row `r`, lane `q`. -/
theorem finish_apply (top : IVec S1x256 32) (xs : EReal) (x4 : Vec Ideal S1x256 .f32) (acc : FVec Ideal S128x256 .f32) (r : Fin 128) (q : Fin 256) :
    finish (F := Ideal) top xs x4 acc (ix2 r q)
      = acc (ix2 r q) * (Ideal.ofBits .f32 (topWord (top (ix2 u0 q))) * xs) * x4 (ix2 u0 q) := by
  unfold finish
  rw [truncf_apply, mulf_apply, mulf_apply,
    broadcastTo_apply _ broadcasts_S1x256_S128x256 (ix2 r q) (ix2 u0 q) (fun a => match a with | ⟨0, _⟩ => rfl | ⟨1, _⟩ => rfl),
    broadcastTo_apply _ broadcasts_S1x256_S128x256 (ix2 r q) (ix2 u0 q) (fun a => match a with | ⟨0, _⟩ => rfl | ⟨1, _⟩ => rfl),
    mulf_apply, shapeCast_self]
  rfl

/-- The column of scale words of a lane. -/
abbrev colOf (x3 : Vec Ideal S32x256 .i32) (q : Fin 256) : Fin 32 → BitVec 32 := fun g => x3 (ix2 g q)

theorem top_apply (x3 : Vec Ideal S32x256 .i32) (q : Fin 256) : k0_pay5 (F := Ideal) x3 (ix2 u0 q) = topOf (colOf x3 q) := by
  unfold k0_pay5
  dsimp only
  rw [shapeCast_apply _ shapeCasts_S256_S1x256 (ix2 u0 q) (ix1 q) (by
    rw [Shape.rowMajor_val_one, Shape.rowMajor_val_two]; show q.val = 0 * 256 + q.val; omega)]
  refine (multiReductionI_eq_fold _ _ _ _ _ _).trans ?_
  exact Shape.Reduces.fold_fiber_r2_a0 _ _ _ _ _

theorem rel_apply (x3 : Vec Ideal S32x256 .i32) (g : Fin 32) (q : Fin 256) :
    k0_pay6 (F := Ideal) x3 (ix2 g q) = Ideal.ofBits .f32 (relWord (expo (colOf x3 q g)) (topOf (colOf x3 q))) := by
  unfold k0_pay6
  rw [truncf_apply, bitcastToFloat_apply]
  show Ideal.ofBits .f32 (IntOp.shli .vector (IntOp.addi (IntOp.subi _ (broadcastTo S32x256 (k0_pay5 x3) _ (ix2 g q))) _) _) = _
  rw [broadcastTo_apply _ _ (ix2 g q) (ix2 u0 q) (fun a => match a with | ⟨0, _⟩ => rfl | ⟨1, _⟩ => rfl), top_apply]
  rfl

/-- THE BLOCK OF THE PRODUCT a grid point stores, at row `r`, lane `q`. -/
theorem yBlk_apply (i : grid0.Coords) (x0 : Vec Ideal S1 .f32) (x2 : Vec Ideal S4096x256 .i8) (x3 : Vec Ideal S32x256 .i32)
    (x4 : Vec Ideal S1x256 .f32) (cd : Vec Ideal S128x4096 .fp8e4m3) (r : Fin 128) (q : Fin 256) :
    yBlk i x0 x2 x3 x4 cd (ix2 r q)
      = (∑ k : Fin 4096, cd (ix2 r k) * (((16 * ((nibble (half i) (x2 (ix2 k q))).toInt : ℝ) : ℝ) : EReal)
          * (Ideal.ofBits .f32 (relWord (expo (x3 (ix2 (grp k) q))) (topOf (colOf x3 q))) * ((1 / 16 : ℝ) : EReal))))
        * (Ideal.ofBits .f32 (topWord (topOf (colOf x3 q))) * only x0) * x4 (ix2 u0 q) := by
  unfold yBlk
  rw [finish_apply, total_apply, top_apply]
  unfold wt
  simp only [rel_apply]

/-- A code: the activation times the reciprocal scale, clipped to the format's range. -/
theorem cdBlk_apply (x0 : Vec Ideal S1 .f32) (x1 : Vec Ideal S128x4096 .bf16) (r : Fin 128) (k : Fin 4096) :
    cdBlk x0 x1 (ix2 r k) = min (Ideal.ofBits .f32 0x43E00000#32) (max (Ideal.ofBits .f32 0xC3E00000#32)
      (x1 (ix2 r k) * Ideal.div (Ideal.ofBits .f32 0x3F800000#32) (only x0))) := by
  unfold cdBlk k0_pay3 k0_pay1
  dsimp only
  rw [truncf_apply, minimumf_apply, maximumf_apply, mulf_apply, extf_apply, shapeCast_self]
  rfl

/-- So a code is a real number whatever the activation is. -/
theorem cdBlk_real (x0 : Vec Ideal S1 .f32) (x1 : Vec Ideal S128x4096 .bf16) (r : Fin 128) (k : Fin 4096) :
    ∃ a : ℝ, cdBlk x0 x1 (ix2 r k) = (a : EReal) := by
  rw [cdBlk_apply, ofBits_448, ofBits_neg448]
  exact exists_real_of_clip _ _ _ (by norm_num)

end Cert.KernelIdeal.Body

end
-- ==== Proof.KernelArrays.lean ====
module

public import proofs.«01_k».proof.Proof.KernelFrame
public import proofs.«01_k».proof.Proof.BlockValue
public import proofs.«01_k».proof.Proof.Words
public import Idealize.ShloMosaic.Lib.Claim
public import Idealize.ShloMosaic.Lib.ValueIdx
public import Idealize.ShloMosaic.Lib.ValueIdxCoords
public import Idealize.ShloMosaic.Lib.Pipeline.Value

@[expose] public section

set_option maxRecDepth 16384

noncomputable section

namespace Cert.KernelIdeal.Body

open Cert.KernelIdeal Cert.KernelIdeal.Gen
open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Words

/-! What the kernel's result arrays hold after its run, as functions of the arguments. -/

variable (m : (ℓ : Loc nD τ sig) → Buf (Elt Ideal) ℓ) (c : Dev nD)

/-! ## The points' blocks -/

theorem point_half : ∀ t : Fin cfg0.N, half (grid0.coords t) = t.val % 2 :=
  (by decide +kernel : ∀ t : Fin grid0.N, ((grid0.coords t) 1).val = t.val % 2)
theorem index_0 : ∀ t : Fin cfg0.N, win0_0.index t 0 = 0 :=
  (by decide +kernel : ∀ t : Fin grid0.N, win0_0.index t 0 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = 0 ∧ win0_2.index t 1 = t.val / 2 :=
  (by decide +kernel : ∀ t : Fin grid0.N, win0_2.index t 0 = 0 ∧ win0_2.index t 1 = t.val / 2)
theorem index_3 : ∀ t : Fin cfg0.N, win0_3.index t 0 = 0 ∧ win0_3.index t 1 = t.val / 2 + 43 * (t.val % 2) :=
  (by decide +kernel : ∀ t : Fin grid0.N, win0_3.index t 0 = 0 ∧ win0_3.index t 1 = t.val / 2 + 43 * (t.val % 2))
theorem index_4 : ∀ t : Fin cfg0.N, win0_4.index t 0 = 0 ∧ win0_4.index t 1 = t.val / 2 + 43 * (t.val % 2) :=
  (by decide +kernel : ∀ t : Fin grid0.N, win0_4.index t 0 = 0 ∧ win0_4.index t 1 = t.val / 2 + 43 * (t.val % 2))
theorem index_5 : ∀ t : Fin cfg0.N, win0_5.index t 0 = 0 ∧ win0_5.index t 1 = t.val / 2 + 43 * (t.val % 2) :=
  (by decide +kernel : ∀ t : Fin grid0.N, win0_5.index t 0 = 0 ∧ win0_5.index t 1 = t.val / 2 + 43 * (t.val % 2))
theorem index_6 : ∀ t : Fin cfg0.N, win0_6.index t 0 = 0 ∧ win0_6.index t 1 = 0 :=
  (by decide +kernel : ∀ t : Fin grid0.N, win0_6.index t 0 = 0 ∧ win0_6.index t 1 = 0)
theorem index_7 : ∀ t : Fin cfg0.N, win0_7.index t 0 = 0 ∧ win0_7.index t 1 = 0 :=
  (by decide +kernel : ∀ t : Fin grid0.N, win0_7.index t 0 = 0 ∧ win0_7.index t 1 = 0)

/-- The activations as a matrix. -/
abbrev acts : Vec Ideal S128x4096 .bf16 := shapeCast S128x4096 (m ((c : Thread nD τ).loc main_arg0)) shapeCasts_S1x128x4096_S128x4096

/-- The activation scale is one number; its block holds it. -/
theorem blk_0 (t : Fin cfg0.N) : iblk m c 0 t = m ((c : Thread nD τ).loc main_arg4) := by
  funext y
  refine Eq.trans (b := V m c main_arg4 y) (congrArg (V m c main_arg4) (funext fun a => Fin.ext ?_)) (congrFun (V_main_arg4 m c) y)
  match a with
  | ⟨0, _⟩ => show win0_0.index t 0 * 1 + 1 * (y 0).val = (y 0).val; rw [index_0 t]; omega

/-- Every point sees all the activations. -/
theorem blk_1 (t : Fin cfg0.N) : iblk m c 1 t = acts m c := by
  funext y
  refine Eq.trans (b := V m c main_v0 y) (congrArg (V m c main_v0) (funext fun a => Fin.ext ?_)) ?_
  · match a with
    | ⟨0, _⟩ => show win0_1.index t 0 * 128 + 1 * (y 0).val = (y 0).val; rw [(index_1 t).1]; omega
    | ⟨1, _⟩ => show win0_1.index t 1 * 4096 + 1 * (y 1).val = (y 1).val; rw [(index_1 t).2]; omega
  · entry_read
    rfl

/-- The bytes: point `t` sees columns from `256 (t / 2)`. -/
theorem blk_2 (t : Fin cfg0.N) (k : Fin 4096) (q : Fin 256) (j : Fin 11008) (hj : j.val = 256 * (t.val / 2) + q.val) :
    iblk m c 2 t (ix2 k q) = m ((c : Thread nD τ).loc main_arg1) (ix2 k j) := by
  refine Eq.trans (b := V m c main_arg1 (ix2 k j)) (congrArg (V m c main_arg1) (funext fun a => Fin.ext ?_)) (congrFun (V_main_arg1 m c) _)
  match a with
  | ⟨0, _⟩ => show win0_2.index t 0 * 4096 + 1 * k.val = k.val; rw [(index_2 t).1]; omega
  | ⟨1, _⟩ => show win0_2.index t 1 * 256 + 1 * q.val = j.val; rw [(index_2 t).2]; omega

/-- The scale words: point `t` sees columns from `256 (t / 2 + 43 (t mod 2))`. -/
theorem blk_3 (t : Fin cfg0.N) (g : Fin 32) (q : Fin 256) (n : Fin 22016) (hn : n.val = 256 * (t.val / 2 + 43 * (t.val % 2)) + q.val) :
    iblk m c 3 t (ix2 g q) = m ((c : Thread nD τ).loc main_arg2) (ix2 g n) := by
  refine Eq.trans (b := V m c main_arg2 (ix2 g n)) (congrArg (V m c main_arg2) (funext fun a => Fin.ext ?_)) (congrFun (V_main_arg2 m c) _)
  match a with
  | ⟨0, _⟩ => show win0_3.index t 0 * 32 + 1 * g.val = g.val; rw [(index_3 t).1]; omega
  | ⟨1, _⟩ => show win0_3.index t 1 * 256 + 1 * q.val = n.val; rw [(index_3 t).2]; omega

/-- The columns' scales, of the same columns. -/
theorem blk_4 (t : Fin cfg0.N) (q : Fin 256) (n : Fin 22016) (hn : n.val = 256 * (t.val / 2 + 43 * (t.val % 2)) + q.val) :
    iblk m c 4 t (ix2 u0 q) = m ((c : Thread nD τ).loc main_arg3) (ix1 n) := by
  refine Eq.trans (b := V m c main_v1 (ix2 u0 n)) (congrArg (V m c main_v1) (funext fun a => Fin.ext ?_)) ?_
  · match a with
    | ⟨0, _⟩ => show win0_4.index t 0 * 1 + 1 * 0 = 0; rw [(index_4 t).1]
    | ⟨1, _⟩ => show win0_4.index t 1 * 256 + 1 * q.val = n.val; rw [(index_4 t).2]; omega
  · entry_read
    exact shapeCast_apply _ shapeCasts_S22016_S1x22016 (ix2 u0 n) (ix1 n) (by
      rw [Shape.rowMajor_val_one, Shape.rowMajor_val_two]; exact ((congrArg (· + n.val) (Nat.zero_mul _)).trans (Nat.zero_add _)).symm)

/-! ## The arrays -/

theorem fwb5 : ∀ t : Fin cfg0.N, (cfg0.win 5).flush t = true :=
  (by decide +kernel : ∀ t : Fin grid0.N, win0_5.flush t = true)
theorem fwb6 : ∀ t : Fin cfg0.N, (cfg0.win 6).flush t = true ↔ t.val = 85 :=
  (by decide +kernel : ∀ t : Fin grid0.N, win0_6.flush t = true ↔ t.val = 85)
theorem fwb7 : ∀ t : Fin cfg0.N, (cfg0.win 7).flush t = true ↔ t.val = 85 :=
  (by decide +kernel : ∀ t : Fin grid0.N, win0_7.flush t = true ↔ t.val = 85)

/-- Different points write different columns of the product. -/
theorem disjoint5 (t t' : Fin cfg0.N) (_ : (cfg0.win 5).flush t = true) (_ : (cfg0.win 5).flush t' = true) (hne : t ≠ t') :
    Disjoint ((cfg0.win 5).blk t).view.set ((cfg0.win 5).blk t').view.set :=
  (cfg0.win 5).disjoint_blk fun h => hne (Fin.ext (by
    have h' : win0_5.index t = win0_5.index t' := h
    have e := congrFun h' (1 : Fin 2)
    rw [(index_5 t).2, (index_5 t').2] at e
    have h1 : t.val < 86 := lt_of_lt_of_eq t.isLt N_0
    have h2 : t'.val < 86 := lt_of_lt_of_eq t'.isLt N_0
    omega))

/-- The last point. -/
abbrev p85 : Fin cfg0.N := ⟨85, by rw [show cfg0.N = 86 from N_0]; decide⟩

theorem emb5 (t : Fin cfg0.N) (r : Fin 128) (q : Fin 256) (n : Fin 22016) (hn : n.val = 256 * (t.val / 2 + 43 * (t.val % 2)) + q.val) :
    ((cfg0.win 5).blk t).view.emb (ix2 r q) = ix2 r n := by
  funext a
  apply Fin.ext
  match a with
  | ⟨0, _⟩ => show win0_5.index t 0 * 128 + 1 * r.val = r.val; rw [(index_5 t).1]; omega
  | ⟨1, _⟩ => show win0_5.index t 1 * 256 + 1 * q.val = n.val; rw [(index_5 t).2]; omega
theorem emb6 (t : Fin cfg0.N) (y : S128x4096.Idx) : ((cfg0.win 6).blk t).view.emb y = y := by
  funext a
  apply Fin.ext
  match a with
  | ⟨0, _⟩ => show win0_6.index t 0 * 128 + 1 * (y 0).val = (y 0).val; rw [(index_6 t).1]; omega
  | ⟨1, _⟩ => show win0_6.index t 1 * 4096 + 1 * (y 1).val = (y 1).val; rw [(index_6 t).2]; omega
theorem emb7 (t : Fin cfg0.N) (y : S128x1.Idx) : ((cfg0.win 7).blk t).view.emb y = y := by
  funext a
  apply Fin.ext
  match a with
  | ⟨0, _⟩ => show win0_7.index t 0 * 128 + 1 * (y 0).val = (y 0).val; rw [(index_7 t).1]; omega
  | ⟨1, _⟩ => show win0_7.index t 1 * 1 + 1 * (y 1).val = (y 1).val; rw [(index_7 t).2]; omega

/-- The product's array at row `r`, column `n`: the element the point of column `n`'s block stored. -/
theorem array5 (t : Fin cfg0.N) (r : Fin 128) (q : Fin 256) (n : Fin 22016) (hn : n.val = 256 * (t.val / 2 + 43 * (t.val % 2)) + q.val) :
    (dats m 0 c).arrAt 5 cfg0.N (ix2 r n) = prod m c t (ix2 r q) := by
  have h := (dats m 0 c).read_blk_arrAt_eq_flushed 5 disjoint5 cfg0.N t t.isLt (fwb5 t)
  replace h : ((cfg0.win 5).blk t).view.read (Elt Ideal) ((dats m 0 c).arrAt 5 cfg0.N) = (cfg0.win 5).cut (grid0.coords t) ((dats m 0 c).after 5 t) := h
  rw [after_5] at h
  generalize prod m c t = P at h ⊢
  generalize (dats m 0 c).arrAt 5 cfg0.N = A at h ⊢
  have h1 : A (((cfg0.win 5).blk t).view.emb (ix2 r q)) = P (ix2 r q) := congrFun h (ix2 r q)
  rw [emb5 t r q n hn] at h1
  exact h1

/-- The codes' array is the codes. -/
theorem array6 : (dats m 0 c).arrAt 6 cfg0.N = codes m c := by
  have h := (dats m 0 c).read_blk_arrAt_eq_flushed 6
    (fun t t' h h' hne => absurd (Fin.ext (((fwb6 t).1 h).trans ((fwb6 t').1 h').symm)) hne) cfg0.N p85 p85.isLt ((fwb6 p85).2 rfl)
  replace h : ((cfg0.win 6).blk p85).view.read (Elt Ideal) ((dats m 0 c).arrAt 6 cfg0.N) = (cfg0.win 6).cut (grid0.coords p85) ((dats m 0 c).after 6 p85) := h
  rw [after_6] at h
  generalize codes m c = P at h ⊢
  generalize (dats m 0 c).arrAt 6 cfg0.N = A at h ⊢
  funext y
  have h1 : A (((cfg0.win 6).blk p85).view.emb y) = P y := congrFun h y
  rw [emb6] at h1
  exact h1

/-- The maxima's array is the maxima. -/
theorem array7 : (dats m 0 c).arrAt 7 cfg0.N = maxima m c := by
  have h := (dats m 0 c).read_blk_arrAt_eq_flushed 7
    (fun t t' h h' hne => absurd (Fin.ext (((fwb7 t).1 h).trans ((fwb7 t').1 h').symm)) hne) cfg0.N p85 p85.isLt ((fwb7 p85).2 rfl)
  replace h : ((cfg0.win 7).blk p85).view.read (Elt Ideal) ((dats m 0 c).arrAt 7 cfg0.N) = (cfg0.win 7).cut (grid0.coords p85) ((dats m 0 c).after 7 p85) := h
  rw [after_7] at h
  generalize maxima m c = P at h ⊢
  generalize (dats m 0 c).arrAt 7 cfg0.N = A at h ⊢
  funext y
  have h1 : A (((cfg0.win 7).blk p85).view.emb y) = P y := congrFun h y
  rw [emb7] at h1
  exact h1

/-- The codes are those of the arguments. -/
theorem codes_eq : codes m c = cdBlk (m ((c : Thread nD τ).loc main_arg4)) (acts m c) := by
  unfold codes; rw [blk_0, blk_1]
/-- The maxima are those of the arguments. -/
theorem maxima_eq : maxima m c = mxBlk (acts m c) := by
  unfold maxima; rw [blk_1]

/-- THE KERNEL'S PRODUCT at row `r` and column `n = j + 11008 h`. -/
theorem product_apply (r : Fin 128) (h : ℕ) (hh : h < 2) (j : Fin 11008) (n : Fin 22016) (hn : n.val = j.val + 11008 * h) :
    (dats m 0 c).arrAt 5 cfg0.N (ix2 r n)
      = (∑ k : Fin 4096, cdBlk (m ((c : Thread nD τ).loc main_arg4)) (acts m c) (ix2 r k)
          * (((16 * ((nibble h (m ((c : Thread nD τ).loc main_arg1) (ix2 k j))).toInt : ℝ) : ℝ) : EReal)
          * (Ideal.ofBits .f32 (relWord (expo (m ((c : Thread nD τ).loc main_arg2) (ix2 (grp k) n)))
              (topOf fun g => m ((c : Thread nD τ).loc main_arg2) (ix2 g n))) * ((1 / 16 : ℝ) : EReal))))
        * (Ideal.ofBits .f32 (topWord (topOf fun g => m ((c : Thread nD τ).loc main_arg2) (ix2 g n))) * only (m ((c : Thread nD τ).loc main_arg4)))
        * m ((c : Thread nD τ).loc main_arg3) (ix1 n) := by
  have hj := j.isLt
  obtain ⟨t, ht⟩ : ∃ t : Fin cfg0.N, t.val = 2 * (j.val / 256) + h :=
    ⟨⟨2 * (j.val / 256) + h, by rw [show cfg0.N = 86 from N_0]; omega⟩, rfl⟩
  obtain ⟨q, hq⟩ : ∃ q : Fin 256, q.val = j.val % 256 := ⟨⟨j.val % 256, Nat.mod_lt _ (by norm_num)⟩, rfl⟩
  have e1 : j.val = 256 * (t.val / 2) + q.val := by omega
  have e2 : n.val = 256 * (t.val / 2 + 43 * (t.val % 2)) + q.val := by omega
  have e3 : half (grid0.coords t) = h := by rw [point_half]; omega
  have e4 : colOf (iblk m c 3 t) q = fun g => m ((c : Thread nD τ).loc main_arg2) (ix2 g n) := funext fun g => blk_3 m c t g q n e2
  rw [array5 m c t r q n e2]
  unfold prod
  rw [yBlk_apply, codes_eq, blk_0, blk_4 m c t q n e2, e4, e3]
  simp only [blk_2 m c t _ q j e1, blk_3 m c t _ q n e2]

end Cert.KernelIdeal.Body

end
-- ==== Proof.ReferenceValue.lean ====
module

public import proofs.«01_k».proof.Proof.Gen.ReferenceIdeal.Skeleton
public import proofs.«01_k».proof.Proof.Words
public import Idealize.ShloMosaic.Lib.MatmulPlain
public import Idealize.ShloMosaic.Lib.ValueIdx
public import Idealize.ShloMosaic.Lib.ValueIdxCoords
public import Idealize.ShloMosaic.Lib.Pipeline.Value

@[expose] public section

set_option maxRecDepth 16384

noncomputable section

namespace Cert.ReferenceIdeal.Body

open Cert.ReferenceIdeal Cert.ReferenceIdeal.Gen
open Idealize.ShloMosaic Idealize.ShloMosaic.ValueIdx Cert.Words

/-! What the reference's program computes at the ideal instance, index by index. -/

/-- The one number of a one-element vector. -/
abbrev one1 (x4 : Vec Ideal S1 .f32) : EReal := x4 (ix1 u0)

/-- A code: the activation times the reciprocal scale, clipped to the format's range. -/
theorem codes_apply (x0 : Vec Ideal S128x4096 .bf16) (x4 : Vec Ideal S1 .f32) (r : Fin 128) (k : Fin 4096) :
    k0_pay4 x0 x4 (ix2 r k) = min (Ideal.ofBits .f32 0x43E00000#32) (max (Ideal.ofBits .f32 0xC3E00000#32)
      (x0 (ix2 r k) * Ideal.div (Ideal.ofBits .f32 0x3F800000#32) (one1 x4))) := by
  unfold k0_pay4 k0_pay2
  dsimp only
  rw [truncf_apply, minimumf_apply, maximumf_apply, mulf_apply, extf_apply, shapeCast_self,
    broadcastTo_apply _ broadcasts_S1x1_S128x4096 (ix2 r k) (ix2 u0 u0) (fun a => match a with | ⟨0, _⟩ => rfl | ⟨1, _⟩ => rfl),
    shapeCast_apply _ shapeCasts_S1_S1x1 (ix2 u0 u0) (ix1 u0) (by rw [Shape.rowMajor_val_one, Shape.rowMajor_val_two]; rfl)]
  rfl

/-- The group of a weight row. -/
abbrev grp (k : Fin 4096) : Fin 32 := ⟨k.val / 128, by have := k.isLt; omega⟩

/-- A weight row's place in its group. -/
abbrev off (k : Fin 4096) : Fin 128 := ⟨k.val % 128, Nat.mod_lt _ (by norm_num)⟩

/-- A grouped array read as rows. -/
theorem rows_of_groups {α : Type} (x : S32x128x11008.Idx → α) (k : Fin 4096) (j : Fin 11008) :
    shapeCast S4096x11008 x shapeCasts_S32x128x11008_S4096x11008 (ix2 k j) = x (ix3 (grp k) (off k) j) :=
  shapeCast_apply _ _ (ix2 k j) (ix3 (grp k) (off k) j) (by
    rw [Shape.rowMajor_val_three, Shape.rowMajor_val_two]
    show (k.val / 128 * 128 + k.val % 128) * 11008 + j.val = k.val * 11008 + j.val
    omega)

/-- Rows read as a grouped array. -/
theorem groups_of_rows {α : Type} (x : S4096x11008.Idx → α) (k : Fin 4096) (j : Fin 11008) :
    shapeCast S32x128x11008 x shapeCasts_S4096x11008_S32x128x11008 (ix3 (grp k) (off k) j) = x (ix2 k j) :=
  shapeCast_apply _ _ (ix3 (grp k) (off k) j) (ix2 k j) (by
    rw [Shape.rowMajor_val_three, Shape.rowMajor_val_two]
    show k.val * 11008 + j.val = (k.val / 128 * 128 + k.val % 128) * 11008 + j.val
    omega)

/-- The group scales spread over a group's rows: row `k`, lane `j` holds group `k / 128`'s scale of column `n`. -/
theorem spread_apply (o : Fin 2 → ℕ) (hs : S32x22016.Slices o S32x11008) (b : Vec Ideal S32x22016 .i32) (k : Fin 4096) (j : Fin 11008) (n : Fin 22016)
    (h0 : o 0 = 0) (hn : n.val = o 1 + j.val) :
    broadcastTo S32x128x11008 (shapeCast S32x1x11008 (extractStridedSlice S32x11008 o (k0_pay5 (F := Ideal) b) hs) shapeCasts_S32x11008_S32x1x11008)
      broadcasts_S32x1x11008_S32x128x11008 (ix3 (grp k) (off k) j) = Ideal.ofBits .f32 (b (ix2 (grp k) n)) := by
  rw [broadcastTo_apply _ _ (ix3 (grp k) (off k) j) (ix3 (grp k) u0 j) (fun a => match a with | ⟨0, _⟩ => rfl | ⟨1, _⟩ => rfl | ⟨2, _⟩ => rfl),
    shapeCast_apply _ _ (ix3 (grp k) u0 j) (ix2 (grp k) j) (by
      rw [Shape.rowMajor_val_three, Shape.rowMajor_val_two]
      show k.val / 128 * 11008 + j.val = (k.val / 128 * 1 + 0) * 11008 + j.val
      omega),
    extractStridedSlice_apply o _ hs (ix2 (grp k) j) (ix2 (grp k) n) (fun a => match a with
      | ⟨0, _⟩ => by show k.val / 128 = o 0 + k.val / 128; omega
      | ⟨1, _⟩ => by show n.val = o 1 + j.val; omega)]
  rfl

/-- The low nibbles' dequantised weights. -/
theorem low_apply (p : Vec Ideal S4096x11008 .i8) (b : Vec Ideal S32x22016 .i32) (k : Fin 4096) (j : Fin 11008) (n : Fin 22016) (hn : n.val = j.val) :
    shapeCast S4096x11008 (k0_pay6 (F := Ideal) p b) shapeCasts_S32x128x11008_S4096x11008 (ix2 k j)
      = (((nibble 0 (p (ix2 k j))).toInt : ℝ) : EReal) * Ideal.ofBits .f32 (b (ix2 (grp k) n)) := by
  rw [rows_of_groups]
  unfold k0_pay6
  rw [mulf_apply, sitofp_apply, groups_of_rows, spread_apply _ _ b k j n rfl (by show n.val = 0 + j.val; omega)]
  rfl

/-- The high nibbles' dequantised weights. -/
theorem high_apply (p : Vec Ideal S4096x11008 .i8) (b : Vec Ideal S32x22016 .i32) (k : Fin 4096) (j : Fin 11008) (n : Fin 22016)
    (hn : n.val = 11008 + j.val) :
    shapeCast S4096x11008 (mulf (k0_pay7 (F := Ideal) p) (k0_pay8 (F := Ideal) b)) shapeCasts_S32x128x11008_S4096x11008 (ix2 k j)
      = (((nibble 1 (p (ix2 k j))).toInt : ℝ) : EReal) * Ideal.ofBits .f32 (b (ix2 (grp k) n)) := by
  rw [rows_of_groups, mulf_apply]
  unfold k0_pay7 k0_pay8
  rw [sitofp_apply, groups_of_rows, spread_apply _ _ b k j n rfl (by show n.val = 11008 + j.val; omega)]
  rfl

/-- One half of the product: the matrix product, times the activation scale, times the columns' scales. -/
theorem part_apply (cd : FVec Ideal S128x4096 .bf16) (w : FVec Ideal S4096x11008 .bf16) (xs : Vec Ideal S1 .f32) (ws : Vec Ideal S22016 .f32)
    (o : Fin 1 → ℕ) (hs : S22016.Slices o S11008) (r : Fin 128) (j : Fin 11008) (n : Fin 22016) (hn : n.val = o 0 + j.val) :
    truncf .bf16 (mulf (F := Ideal) (mulf (matmul dot_S128x4096_S4096x11008_S128x11008_1_0_0_1_n_n none cd w (constant S128x11008 .f32 0x00000000#32))
        (broadcastTo S128x11008 (shapeCast S1x1 xs shapeCasts_S1_S1x1) broadcasts_S1x1_S128x11008))
        (broadcastTo S128x11008 (shapeCast S1x11008 (extractStridedSlice S11008 o ws hs) shapeCasts_S11008_S1x11008) broadcasts_S1x11008_S128x11008))
      bitsLt_bf16_f32 (ix2 r j)
      = (∑ k : Fin 4096, cd (ix2 r k) * w (ix2 k j)) * one1 xs * ws (ix1 n) := by
  rw [truncf_apply, mulf_apply, mulf_apply,
    broadcastTo_apply _ broadcasts_S1x1_S128x11008 (ix2 r j) (ix2 u0 u0) (fun a => match a with | ⟨0, _⟩ => rfl | ⟨1, _⟩ => rfl),
    shapeCast_apply _ shapeCasts_S1_S1x1 (ix2 u0 u0) (ix1 u0) (by rw [Shape.rowMajor_val_one, Shape.rowMajor_val_two]; rfl),
    broadcastTo_apply _ broadcasts_S1x11008_S128x11008 (ix2 r j) (ix2 u0 j) (fun a => match a with | ⟨0, _⟩ => rfl | ⟨1, _⟩ => rfl),
    shapeCast_apply _ shapeCasts_S11008_S1x11008 (ix2 u0 j) (ix1 j) (by
      rw [Shape.rowMajor_val_one, Shape.rowMajor_val_two]; show j.val = 0 * 11008 + j.val; omega),
    extractStridedSlice_apply o ws hs (ix1 j) (ix1 n) (fun a => match a with | ⟨0, _⟩ => hn)]
  refine congrArg (· * one1 xs * ws (ix1 n)) ?_
  refine (Ideal.matmul_plain_apply (M := 128) (K := 4096) (N := 11008) none _ _ _ r j).trans ?_
  rw [constant_apply, show Ideal.ofBits .f32 0x00000000#32 = 0 from by simp [Ideal.ofBits, Ideal.ieee], zero_add]

/-- The product the reference stores, from its codes, its packed weights, its scale words and its scales. -/
abbrev product (x0 : Vec Ideal S128x4096 .bf16) (x1 : Vec Ideal S4096x11008 .i8) (x2 : Vec Ideal S32x22016 .i32) (x3 : Vec Ideal S22016 .f32)
    (x4 : Vec Ideal S1 .f32) : FVec Ideal S128x22016 .bf16 :=
  k0_pay1 x4 (k0_pay4 x0 x4) (k0_pay6 x1 x2) (k0_pay7 x1) (k0_pay8 x2) x3

/-- THE REFERENCE'S PRODUCT at row `r` and column `n = j + 11008 h`: the row of codes times the column of dequantised
    weights (half `h`'s nibble of the byte at lane `j`, times its group's scale), times the two scales. -/
theorem product_apply (x0 : Vec Ideal S128x4096 .bf16) (x1 : Vec Ideal S4096x11008 .i8) (x2 : Vec Ideal S32x22016 .i32) (x3 : Vec Ideal S22016 .f32)
    (x4 : Vec Ideal S1 .f32) (r : Fin 128) (h : ℕ) (hh : h < 2) (j : Fin 11008) (n : Fin 22016) (hn : n.val = j.val + 11008 * h) :
    product x0 x1 x2 x3 x4 (ix2 r n)
      = (∑ k : Fin 4096, k0_pay4 x0 x4 (ix2 r k) * ((((nibble h (x1 (ix2 k j))).toInt : ℝ) : EReal) * Ideal.ofBits .f32 (x2 (ix2 (grp k) n))))
        * one1 x4 * x3 (ix1 n) := by
  unfold product k0_pay1
  have hj := j.isLt
  interval_cases h
  · rw [concatenate_pair_apply_left (s₁ := S128x11008) (s₂ := S128x11008) 1 _ _ _ (ix2 r n) rfl (ix2 r j)
      (fun b => match b with | ⟨0, _⟩ => rfl | ⟨1, _⟩ => by show j.val = n.val; omega),
      part_apply _ _ x4 x3 _ _ r j n (by show n.val = 0 + j.val; omega)]
    refine congrArg (· * one1 x4 * x3 (ix1 n)) (Finset.sum_congr rfl fun k _ => ?_)
    rw [low_apply x1 x2 k j n (by omega), extf_apply]
  · rw [concatenate_pair_apply_right (s₁ := S128x11008) (s₂ := S128x11008) 1 _ _ _ (ix2 r n) rfl rfl (ix2 r j)
      (fun b hb => match b, hb with | ⟨0, _⟩, _ => rfl | ⟨1, _⟩, hb => absurd rfl hb) (by show j.val + 11008 = n.val; omega),
      part_apply _ _ x4 x3 _ _ r j n (by show n.val = 11008 + j.val; omega)]
    refine congrArg (· * one1 x4 * x3 (ix1 n)) (Finset.sum_congr rfl fun k _ => ?_)
    rw [high_apply x1 x2 k j n (by omega), extf_apply]

end Cert.ReferenceIdeal.Body

end
-- ==== Proof.ReferenceArrays.lean ====
module

public import proofs.«01_k».proof.Proof.ReferenceRun
public import proofs.«01_k».proof.Proof.ReferenceValue
public import Idealize.ShloMosaic.Lib.Claim

@[expose] public section

set_option maxRecDepth 16384

noncomputable section

namespace Cert.ReferenceIdeal.Body

open Cert.ReferenceIdeal Cert.ReferenceIdeal.Gen
open Idealize.ShloMosaic Idealize.ShloMosaic.TcCoe Idealize.ShloMosaic.ValueIdx
open Idealize.ShloMosaic.Pipeline (Dat)

/-! What the reference's result arrays hold after its run. -/

variable (m : (ℓ : Loc nD τ sig) → Buf (Elt Ideal) ℓ) (c : Dev nD)

/-- The activations as a matrix. -/
abbrev xs2 : Vec Ideal S128x4096 .bf16 := shapeCast S128x4096 (m ((c : Thread nD τ).loc main_arg0)) shapeCasts_S1x128x4096_S128x4096

theorem iblk_0 (t : Fin cfg0.N) : iblk m c 0 t = xs2 m c := by
  funext y
  refine Eq.trans (b := V m c main_v0 y) (congrArg (V m c main_v0) (funext fun a => Fin.ext ?_)) ?_
  · match a with
    | ⟨0, _⟩ => show 0 * 128 + 1 * (y 0).val = (y 0).val; omega
    | ⟨1, _⟩ => show 0 * 4096 + 1 * (y 1).val = (y 1).val; omega
  · entry_read
    rfl

theorem iblk_1 (t : Fin cfg0.N) : iblk m c 1 t = m ((c : Thread nD τ).loc main_arg1) := by
  funext y
  refine Eq.trans (b := V m c main_arg1 y) (congrArg (V m c main_arg1) (funext fun a => Fin.ext ?_)) (congrFun (V_main_arg1 m c) y)
  match a with
  | ⟨0, _⟩ => show 0 * 4096 + 1 * (y 0).val = (y 0).val; omega
  | ⟨1, _⟩ => show 0 * 11008 + 1 * (y 1).val = (y 1).val; omega

theorem iblk_2 (t : Fin cfg0.N) : iblk m c 2 t = m ((c : Thread nD τ).loc main_arg2) := by
  funext y
  refine Eq.trans (b := V m c main_arg2 y) (congrArg (V m c main_arg2) (funext fun a => Fin.ext ?_)) (congrFun (V_main_arg2 m c) y)
  match a with
  | ⟨0, _⟩ => show 0 * 32 + 1 * (y 0).val = (y 0).val; omega
  | ⟨1, _⟩ => show 0 * 22016 + 1 * (y 1).val = (y 1).val; omega

theorem iblk_3 (t : Fin cfg0.N) : iblk m c 3 t = m ((c : Thread nD τ).loc main_arg3) := by
  funext y
  refine Eq.trans (b := V m c main_arg3 y) (congrArg (V m c main_arg3) (funext fun a => Fin.ext ?_)) (congrFun (V_main_arg3 m c) y)
  match a with
  | ⟨0, _⟩ => show 0 * 22016 + 1 * (y 0).val = (y 0).val; omega

theorem iblk_4 (t : Fin cfg0.N) : iblk m c 4 t = m ((c : Thread nD τ).loc main_arg4) := by
  funext y
  refine Eq.trans (b := V m c main_arg4 y) (congrArg (V m c main_arg4) (funext fun a => Fin.ext ?_)) (congrFun (V_main_arg4 m c) y)
  match a with
  | ⟨0, _⟩ => show 0 * 1 + 1 * (y 0).val = (y 0).val; omega

theorem zeros2 : (![0, 0] : Fin 2 → ℕ) = fun _ => 0 := by funext a; fin_cases a <;> rfl
theorem zeros1 : (![0] : Fin 1 → ℕ) = fun _ => 0 := by funext a; fin_cases a; rfl

section
variable (x0 : Vec Ideal S128x4096 .bf16) (x1 : Vec Ideal S4096x11008 .i8) (x2 : Vec Ideal S32x22016 .i32) (x3 : Vec Ideal S22016 .f32)
  (x4 : Vec Ideal S1 .f32)

/-- Reading a whole array through its whole rectangle gives the array. -/
theorem ld0 : View.ld x0 r0_0 = x0 := View.ld_unit_zero (S := S128x4096) zeros2 _ x0
theorem ld1 : View.ld x1 r0_3 = x1 := View.ld_unit_zero (S := S4096x11008) zeros2 _ x1
theorem ld2 : View.ld x2 r0_4 = x2 := View.ld_unit_zero (S := S32x22016) zeros2 _ x2
theorem ld3 : View.ld x3 r0_5 = x3 := View.ld_unit_zero (S := S22016) zeros1 _ x3
theorem ld4 : View.ld x4 r0_1 = x4 := View.ld_unit_zero (S := S1) zeros1 _ x4

/-- What the body leaves in the product's buffer, -/
theorem out5 : out0_5 x0 x1 x2 x3 x4 = product x0 x1 x2 x3 x4 := by
  unfold out0_5
  refine (View.canon_unit_zero (S := S128x22016) zeros2 _ _).trans ?_
  rw [ld0, ld1, ld2, ld3, ld4]
/-- in the codes', -/
theorem out6 : out0_6 x0 x1 x2 x3 x4 = k0_pay4 x0 x4 := by
  unfold out0_6
  refine (View.canon_unit_zero (S := S128x4096) zeros2 _ _).trans ?_
  rw [ld0, ld4]
/-- and in the row maxima's. -/
theorem out7 : out0_7 x0 x1 x2 x3 x4 = k0_pay3 x0 := by
  unfold out0_7
  refine (View.canon_unit_zero (S := S128x1) zeros2 _ _).trans ?_
  rw [ld0]
end

/-- The reference's only grid point. -/
abbrev pt : Fin cfg0.N := ⟨0, by decide⟩

/-- Where the block's element `y` sits in the array: at `y`. -/
theorem emb5 (t : Fin cfg0.N) (y : S128x22016.Idx) : ((cfg0.win 5).blk t).view.emb y = y := by
  funext a
  apply Fin.ext
  match a with
  | ⟨0, _⟩ => show 0 * 128 + 1 * (y 0).val = (y 0).val; omega
  | ⟨1, _⟩ => show 0 * 22016 + 1 * (y 1).val = (y 1).val; omega

/-- The first result array is the product. -/
theorem array5 : (dats m 0 c).arrAt 5 cfg0.N = product (xs2 m c) (m ((c : Thread nD τ).loc main_arg1)) (m ((c : Thread nD τ).loc main_arg2))
    (m ((c : Thread nD τ).loc main_arg3)) (m ((c : Thread nD τ).loc main_arg4)) := by
  have h := blocks5 m c pt
  rw [iblk_0, iblk_1, iblk_2, iblk_3, iblk_4] at h
  rw [out5] at h
  generalize product (xs2 m c) (m ((c : Thread nD τ).loc main_arg1)) (m ((c : Thread nD τ).loc main_arg2))
    (m ((c : Thread nD τ).loc main_arg3)) (m ((c : Thread nD τ).loc main_arg4)) = P at h ⊢
  generalize (dats m 0 c).arrAt 5 cfg0.N = A at h ⊢
  funext y
  have h1 : A (((cfg0.win 5).blk pt).view.emb y) = P y := congrFun h y
  rw [emb5] at h1
  exact h1

/-- The second result array is the codes. -/
theorem array6 : (dats m 0 c).arrAt 6 cfg0.N = k0_pay4 (xs2 m c) (m ((c : Thread nD τ).loc main_arg4)) := by
  funext y
  have h := congrFun (blocks6 m c pt) y
  rw [iblk_0, iblk_1, iblk_2, iblk_3, iblk_4] at h
  rw [out6] at h
  refine Eq.trans (congrArg ((dats m 0 c).arrAt 6 cfg0.N) (funext fun a => Fin.ext ?_)) h
  match a with
  | ⟨0, _⟩ => show (y 0).val = 0 * 128 + 1 * (y 0).val; omega
  | ⟨1, _⟩ => show (y 1).val = 0 * 4096 + 1 * (y 1).val; omega

/-- The third result array is the rows' largest magnitudes. -/
theorem array7 : (dats m 0 c).arrAt 7 cfg0.N = k0_pay3 (xs2 m c) := by
  funext y
  have h := congrFun (blocks7 m c pt) y
  rw [iblk_0, iblk_1, iblk_2, iblk_3, iblk_4] at h
  rw [out7] at h
  refine Eq.trans (congrArg ((dats m 0 c).arrAt 7 cfg0.N) (funext fun a => Fin.ext ?_)) h
  match a with
  | ⟨0, _⟩ => show (y 0).val = 0 * 128 + 1 * (y 0).val; omega
  | ⟨1, _⟩ => show (y 1).val = 0 * 1 + 1 * (y 1).val; omega

end Cert.ReferenceIdeal.Body

end
-- ==== Proof.Equation.lean ====
module

public import proofs.«01_k».proof.Proof.KernelArrays
public import proofs.«01_k».proof.Proof.ReferenceArrays

@[expose] public section

set_option maxRecDepth 16384

noncomputable section

namespace Cert.Equation

open Idealize.ShloMosaic hiding ix1 ix2 ix3
open Idealize.ShloMosaic.TcCoe Idealize.SL.Sem Cert.Words
open Idealize.ShloMosaic.ValueIdx (ix1 u0)

/-! Kernel and reference compute the same three arrays from the same arguments. -/

/-- The one word of an array of one element, read by kernel and reference, is the same. -/
theorem only_eq (s : Vec Ideal KernelIdeal.S1 .f32) : KernelIdeal.Body.only s = ReferenceIdeal.Body.one1 s :=
  congrArg s (funext fun
    | 0 => Subsingleton.elim (α := Fin 1) _ _)

/-- THE CODES agree: both are the activation times the reciprocal scale, clipped. -/
theorem codes_agree (x : Vec Ideal KernelIdeal.S128x4096 .bf16) (s : Vec Ideal KernelIdeal.S1 .f32) :
    KernelIdeal.Body.cdBlk s x = ReferenceIdeal.Gen.k0_pay4 (F := Ideal) x s := by
  have key : ∀ (r : Fin 128) (k : Fin 4096),
      KernelIdeal.Body.cdBlk s x (ValueIdx.ix2 r k) = ReferenceIdeal.Gen.k0_pay4 (F := Ideal) x s (ValueIdx.ix2 r k) := by
    intro r k
    rw [KernelIdeal.Body.cdBlk_apply, ReferenceIdeal.Body.codes_apply, only_eq]
  funext y
  rw [ValueIdx.eq_ix2 y]
  exact key _ _

/-- THE ROW MAXIMA agree: both are the largest magnitude of each row. -/
theorem maxima_agree (x : Vec Ideal KernelIdeal.S128x4096 .bf16) :
    KernelIdeal.Body.mxBlk x = ReferenceIdeal.Gen.k0_pay3 (F := Ideal) x := rfl

/-- Every column is one of a half's columns. -/
theorem column_split (n : Fin 22016) : ∃ (h : ℕ) (j : Fin 11008), h < 2 ∧ n.val = j.val + 11008 * h := by
  have hn := n.isLt
  by_cases hlt : n.val < 11008
  · exact ⟨0, ⟨n.val, hlt⟩, by norm_num, rfl⟩
  · exact ⟨1, ⟨n.val - 11008, by omega⟩, by norm_num, by show n.val = n.val - 11008 + 11008 * 1; omega⟩

/-- THE PRODUCT agrees where the column's scale words are powers of two in range: the kernel's factor 16 of each nibble,
    its sixteenth and its split of the group scale into a relative scale and the column's top scale cancel. -/
theorem product_agrees (m : (ℓ : Loc KernelIdeal.nD KernelIdeal.τ KernelIdeal.sig) → Buf (Elt Ideal) ℓ) (c : Dev KernelIdeal.nD)
    (hcol : ∀ n : Fin 22016, ColOk fun g => m ((c : Thread KernelIdeal.nD KernelIdeal.τ).loc KernelIdeal.main_arg2) (ValueIdx.ix2 g n)) :
    (KernelIdeal.Body.dats m 0 c).arrAt 5 KernelIdeal.cfg0.N
      = ReferenceIdeal.Body.product (KernelIdeal.Body.acts m c) (m ((c : Thread KernelIdeal.nD KernelIdeal.τ).loc KernelIdeal.main_arg1))
          (m ((c : Thread KernelIdeal.nD KernelIdeal.τ).loc KernelIdeal.main_arg2)) (m ((c : Thread KernelIdeal.nD KernelIdeal.τ).loc KernelIdeal.main_arg3))
          (m ((c : Thread KernelIdeal.nD KernelIdeal.τ).loc KernelIdeal.main_arg4)) := by
  have key : ∀ (r : Fin 128) (n : Fin 22016), (KernelIdeal.Body.dats m 0 c).arrAt 5 KernelIdeal.cfg0.N (ValueIdx.ix2 r n)
      = ReferenceIdeal.Body.product (KernelIdeal.Body.acts m c) (m ((c : Thread KernelIdeal.nD KernelIdeal.τ).loc KernelIdeal.main_arg1))
          (m ((c : Thread KernelIdeal.nD KernelIdeal.τ).loc KernelIdeal.main_arg2)) (m ((c : Thread KernelIdeal.nD KernelIdeal.τ).loc KernelIdeal.main_arg3))
          (m ((c : Thread KernelIdeal.nD KernelIdeal.τ).loc KernelIdeal.main_arg4)) (ValueIdx.ix2 r n) := by
    intro r n
    obtain ⟨h, j, hh, hn⟩ := column_split n
    rw [KernelIdeal.Body.product_apply m c r h hh j n hn, ReferenceIdeal.Body.product_apply _ _ _ _ _ r h hh j n hn, ← codes_agree]
    obtain ⟨S, f, G, hS, hfG⟩ := (hcol n).scales
    have hr : ∀ k, ∃ a : ℝ, KernelIdeal.Body.cdBlk (m ((c : Thread KernelIdeal.nD KernelIdeal.τ).loc KernelIdeal.main_arg4)) (KernelIdeal.Body.acts m c)
        (ValueIdx.ix2 r k) = (a : EReal) := fun k => KernelIdeal.Body.cdBlk_real _ _ r k
    choose a ha using hr
    rw [hS, only_eq]
    simp only [ha]
    refine Eq.trans ?_ ((scale_out a (fun k => ((nibble h (m ((c : Thread KernelIdeal.nD KernelIdeal.τ).loc KernelIdeal.main_arg1) (ValueIdx.ix2 k j))).toInt : ℝ))
      (fun k => f (KernelIdeal.Body.grp k)) (fun k => G (KernelIdeal.Body.grp k)) S
      (ReferenceIdeal.Body.one1 (m ((c : Thread KernelIdeal.nD KernelIdeal.τ).loc KernelIdeal.main_arg4))) ((m ((c : Thread KernelIdeal.nD KernelIdeal.τ).loc KernelIdeal.main_arg3)) (ix1 n)) (fun k => (hfG (KernelIdeal.Body.grp k)).2.2)).trans ?_)
    · refine congrArg₂ (· * ·) (congrArg₂ (· * ·) (Finset.sum_congr rfl fun k _ => ?_) rfl) rfl
      rw [← (hfG (KernelIdeal.Body.grp k)).1]
    · refine congrArg₂ (· * ·) (congrArg₂ (· * ·) (Finset.sum_congr rfl fun k _ => ?_) rfl) rfl
      rw [← (hfG (KernelIdeal.Body.grp k)).2.1]
  funext y
  rw [ValueIdx.eq_ix2 y]
  exact key _ _

/-- The kernel runs to the end: each result array holds what its points wrote back, the arguments are unchanged. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ fun r => ∀ c : Dev KernelIdeal.nD,
      r.2.mem ((c : Thread KernelIdeal.nD KernelIdeal.τ).loc KernelIdeal.main_v2_0) = (KernelIdeal.Body.dats m 0 c).arrAt 5 KernelIdeal.cfg0.N
      ∧ r.2.mem ((c : Thread KernelIdeal.nD KernelIdeal.τ).loc KernelIdeal.main_v2_1) = (KernelIdeal.Body.dats m 0 c).arrAt 6 KernelIdeal.cfg0.N
      ∧ r.2.mem ((c : Thread KernelIdeal.nD KernelIdeal.τ).loc KernelIdeal.main_v2_2) = (KernelIdeal.Body.dats m 0 c).arrAt 7 KernelIdeal.cfg0.N
      ∧ r.2.mem ((c : Thread KernelIdeal.nD KernelIdeal.τ).loc KernelIdeal.main_arg0) = m ((c : Thread KernelIdeal.nD KernelIdeal.τ).loc KernelIdeal.main_arg0)
      ∧ r.2.mem ((c : Thread KernelIdeal.nD KernelIdeal.τ).loc KernelIdeal.main_arg1) = m ((c : Thread KernelIdeal.nD KernelIdeal.τ).loc KernelIdeal.main_arg1)
      ∧ r.2.mem ((c : Thread KernelIdeal.nD KernelIdeal.τ).loc KernelIdeal.main_arg2) = m ((c : Thread KernelIdeal.nD KernelIdeal.τ).loc KernelIdeal.main_arg2)
      ∧ r.2.mem ((c : Thread KernelIdeal.nD KernelIdeal.τ).loc KernelIdeal.main_arg3) = m ((c : Thread KernelIdeal.nD KernelIdeal.τ).loc KernelIdeal.main_arg3)
      ∧ r.2.mem ((c : Thread KernelIdeal.nD KernelIdeal.τ).loc KernelIdeal.main_arg4) = m ((c : Thread KernelIdeal.nD KernelIdeal.τ).loc KernelIdeal.main_arg4) :=
  (θ_run (KernelIdeal.defs (F := Ideal)) _ _).mono (fun _ h c => ⟨(h.1 c).1 5, (h.1 c).1 6, (h.1 c).1 7, h.2 c⟩)
    (θ_run_and (KernelIdeal.Body.run_main m g) (KernelIdeal.Body.unchanged m g))

end Cert.Equation

end
-- ==== Proof.SameProgram.lean ====
module

public import proofs.«01_k».proof.Proof.Gen.Kernel
public import proofs.«01_k».proof.Proof.KernelFrame

@[expose] public section

set_option maxRecDepth 65536

noncomputable section

namespace Cert.Same

open Idealize.ShloMosaic Idealize.SL.Sem

variable {F : FTy → Type} [FloatOps F]

/-! The kernel is printed twice, once for machine floats and once for ideal ones; the two texts are one program at every
instance of the floats, so the frame proved of the second is the frame of the first. -/

/-- The two body tables of the launch are the same: the one label's bodies have the same text. -/
theorem defs₀ : Cert.Kernel.defs₀ (F := F) = Cert.KernelIdeal.defs₀ (F := F) :=
  congrArg (Defs.onTc (nD := Cert.Kernel.nD) (τ := Cert.Kernel.τ) (sig := Cert.Kernel.sig) (Val := Elt F) (Λ := Cert.Kernel.Λ₀)) (funext fun
    | (0 : Fin 1) => funext fun _ => rfl
    | (⟨_ + 1, h⟩ : Fin 1) => absurd h (Nat.not_lt.2 (Nat.le_add_left _ _)))

/-- The two whole body tables are the same. -/
theorem defs : Cert.Kernel.defs (F := F) = Cert.KernelIdeal.defs (F := F) :=
  congrArg (Pipeline.defs Cert.Kernel.pcfgs) defs₀

/-- The two host programs are the same. -/
theorem main : Cert.Kernel.main (F := F) = Cert.KernelIdeal.main (F := F) := rfl

/-- THE FRAME of the kernel as printed for machine floats: it runs, leaves its arguments unchanged and every semaphore at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs, main]
  exact Cert.KernelIdeal.Body.frame m ρ

end Cert.Same

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Precondition
public import proofs.«01_k».proof.Proof.ReferenceRun
public import proofs.«01_k».proof.Proof.Equation
public import proofs.«01_k».proof.Proof.SameProgram

@[expose] public section

noncomputable section

namespace Cert.Proof

open Idealize.ShloMosaic Idealize.SL.Sem

/-- EQUAL RESULTS: from memories that agree on the arguments, and where the group scales are powers of two in range, kernel
    and reference both run and end with the same product, the same codes and the same row maxima. -/
theorem algebraic :
    @Cert.algebraic_KernelIdeal_ReferenceIdeal_pre_powers_of_two Cert.KernelIdeal.Gen.facts Cert.ReferenceIdeal.Gen.facts
      Cert.Pre_powers_of_two.facts := by
  intro m g m' g' hpre hargs
  refine ⟨fun c => (Cert.KernelIdeal.Body.dats m 0 c).arrAt 5 Cert.KernelIdeal.cfg0.N,
    fun c => (Cert.KernelIdeal.Body.dats m 0 c).arrAt 6 Cert.KernelIdeal.cfg0.N,
    fun c => (Cert.KernelIdeal.Body.dats m 0 c).arrAt 7 Cert.KernelIdeal.cfg0.N,
    Cert.Equation.kernel_run m g, ?_⟩
  refine (θ_run (Cert.ReferenceIdeal.defs (F := Ideal)) _ _).mono (fun r h c => ?_) (Cert.ReferenceIdeal.Body.run_blocks m' g')
  obtain ⟨h0, h1, h2, hrest⟩ := h c
  obtain ⟨e0, e1, e2, e3, e4⟩ := hargs c
  have ex : Cert.ReferenceIdeal.Body.xs2 m' c = Cert.KernelIdeal.Body.acts m c := by
    unfold Cert.ReferenceIdeal.Body.xs2 Cert.KernelIdeal.Body.acts
    rw [e0]
  refine ⟨h0.trans ?_, h1.trans ?_, h2.trans ?_, hrest⟩
  · rw [Cert.ReferenceIdeal.Body.array5, ex, e1, e2, e3, e4]
    exact (Cert.Equation.product_agrees m c fun n => @Cert.Pre_powers_of_two.column_ok Cert.Pre_powers_of_two.facts _ _ _ _ _ (hpre c) n).symm
  · rw [Cert.ReferenceIdeal.Body.array6, ex, e4]
    exact (((Cert.KernelIdeal.Body.array6 m c).trans (Cert.KernelIdeal.Body.codes_eq m c)).trans (Cert.Equation.codes_agree _ _)).symm
  · rw [Cert.ReferenceIdeal.Body.array7, ex]
    exact (((Cert.KernelIdeal.Body.array7 m c).trans (Cert.KernelIdeal.Body.maxima_eq m c)).trans (Cert.Equation.maxima_agree _)).symm

/-- THE CERTIFICATE: every claim of `Cert.Claim` holds. -/
theorem claim : Cert.Claim :=
  ⟨Cert.Kernel.Gen.facts, Cert.KernelIdeal.Gen.facts, Cert.ReferenceIdeal.Gen.facts, Cert.Pre_powers_of_two.facts,
    fun m ρ _ => Cert.Same.frame m ρ,
    fun m ρ _ => Cert.KernelIdeal.Body.frame m ρ, fun m ρ _ => Cert.KernelIdeal.Body.frame m ρ,
    fun m ρ _ => Cert.ReferenceIdeal.Gen.frame m ρ, fun m ρ _ => Cert.ReferenceIdeal.Gen.frame m ρ,
    trivial, algebraic⟩

end Cert.Proof

end
